-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_KernelIdeal [hPre_nonneg_KernelIdeal : Cert.Pre_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_ReferenceIdeal [hPre_nonneg_ReferenceIdeal : Cert.Pre_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg_KernelIdeal [hKernelIdeal : Cert.KernelIdeal.Facts] [hPre_nonneg_KernelIdeal : Cert.Pre_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg_ReferenceIdeal [hReferenceIdeal : Cert.ReferenceIdeal.Facts] [hPre_nonneg_ReferenceIdeal : Cert.Pre_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonneg_KernelIdeal [hKernelIdeal : Cert.KernelIdeal.Facts] [hReferenceIdeal : Cert.ReferenceIdeal.Facts] [hPre_nonneg_KernelIdeal : Cert.Pre_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg_KernelIdeal : Cert.Pre_nonneg_KernelIdeal.Facts) (hPre_nonneg_ReferenceIdeal : Cert.Pre_nonneg_ReferenceIdeal.Facts),
    quiescent_Kernel (hKernel := hKernel)
    ∧ quiescent_KernelIdeal (hKernelIdeal := hKernelIdeal)
    ∧ quiescent_KernelIdeal_pre_nonneg_KernelIdeal (hKernelIdeal := hKernelIdeal) (hPre_nonneg_KernelIdeal := hPre_nonneg_KernelIdeal)
    ∧ quiescent_ReferenceIdeal (hReferenceIdeal := hReferenceIdeal)
    ∧ quiescent_ReferenceIdeal_pre_nonneg_ReferenceIdeal (hReferenceIdeal := hReferenceIdeal) (hPre_nonneg_ReferenceIdeal := hPre_nonneg_ReferenceIdeal)
    ∧ preserves_Kernel_KernelIdeal
    ∧ algebraic_KernelIdeal_ReferenceIdeal_pre_nonneg_KernelIdeal (hKernelIdeal := hKernelIdeal) (hReferenceIdeal := hReferenceIdeal) (hPre_nonneg_KernelIdeal := hPre_nonneg_KernelIdeal)
-- ==== Pre_nonneg_KernelIdeal.lean ====
abbrev S256x256 : Shape := ⟨2, ![256, 256]⟩
abbrev S_ : Shape := ⟨0, ![]⟩

class Facts : Prop where
  bcast_S_S256x256 : S_.BroadcastsInDim S256x256 (![] : Fin 0 → Fin S256x256.rank)

variable [Facts]

def fn {F : FTy → Type} [FloatOps F] (main_arg0 : FVec F S256x256 .f32) : IVec S256x256 1 :=
  let main_cst : FVec F S_ .f32 := constant S_ .f32 0x00000000#32
  let main_v0 : FVec F S256x256 .f32 := broadcastInDim S256x256 ![] bcast_S_S256x256 main_cst
  let main_v1 : IVec S256x256 1 := cmpf .oge main_arg0 main_v0
  main_v1
-- ==== Pre_nonneg_ReferenceIdeal.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)

variable [Facts]

def fn {F : FTy → Type} [FloatOps F] (main_arg0 : FVec F S1024x256 .f32) : IVec S1024x256 1 :=
  let main_cst : FVec F S_ .f32 := constant S_ .f32 0x00000000#32
  let main_v0 : FVec F S1024x256 .f32 := broadcastInDim S1024x256 ![] bcast_S_S1024x256 main_cst
  let main_v1 : IVec S1024x256 1 := cmpf .oge main_arg0 main_v0
  main_v1
-- ==== Kernel.lean ====
abbrev S256x256 : Shape := ⟨2, ![256, 256]⟩
abbrev S1x256 : Shape := ⟨2, ![1, 256]⟩
abbrev S3x1x256 : Shape := ⟨3, ![3, 1, 256]⟩
abbrev S3 : Shape := ⟨1, ![3]⟩
abbrev S256 : Shape := ⟨1, ![256]⟩
abbrev S_ : Shape := ⟨0, ![]⟩
abbrev S1 : Shape := ⟨1, ![1]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S3x1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v13 : BitVec 32 := Scalar.addi v2 c1_i32_3
  let c4_i32_4 : BitVec 32 := 4#32
  let c0_i32 : BitVec 32 := 0#32
  let v14 : BitVec 1 := Scalar.cmpi .eq c4_i32_4 c0_i32
  let c1_i32_5 : BitVec 32 := 1#32
  let v15 : BitVec 32 := Scalar.select v14 c1_i32_5 c4_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c1_i32_10 : BitVec 32 := 1#32
  let v24 : BitVec 32 := Scalar.muli v23 c1_i32_10
  let v25 : BitVec 32 := Scalar.addi c0_i32_11 v24
  v25.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_12 : BitVec 32 := 4#32
  let c0_i32_13 : BitVec 32 := 0#32
  let v27 : BitVec 1 := Scalar.cmpi .eq c4_i32_12 c0_i32_13
  let c1_i32_14 : BitVec 32 := 1#32
  let v28 : BitVec 32 := Scalar.select v27 c1_i32_14 c4_i32_12
  let v29 : BitVec 32 := Scalar.remsi v26 v28
  let c0_i32_16 : BitVec 32 := 0#32
  let v31 : BitVec 1 := Scalar.cmpi .slt v29 c0_i32_16
  let c0_i32_17 : BitVec 32 := 0#32
  let v32 : BitVec 1 := Scalar.cmpi .slt v28 c0_i32_17
  let v33 : BitVec 1 := Scalar.xori v31 v32
  let c0_i32_15 : BitVec 32 := 0#32
  let v30 : BitVec 1 := Scalar.cmpi .ne v29 c0_i32_15
  let v34 : BitVec 1 := Scalar.andi v33 v30
  let v35 : BitVec 32 := Scalar.addi v29 v28
  let v36 : BitVec 32 := Scalar.select v34 v35 v29
  let c1_i32_19 : BitVec 32 := 1#32
  let v37 : BitVec 32 := Scalar.muli v36 c1_i32_19
  let v38 : BitVec 32 := Scalar.addi c0_i32_20 v37
  v38.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v39 : BitVec 32 := Scalar.addi v2 c3_i32
  let c4_i32_21 : BitVec 32 := 4#32
  let c0_i32_22 : BitVec 32 := 0#32
  let v40 : BitVec 1 := Scalar.cmpi .eq c4_i32_21 c0_i32_22
  let c1_i32_23 : BitVec 32 := 1#32
  let v41 : BitVec 32 := Scalar.select v40 c1_i32_23 c4_i32_21
  let v42 : BitVec 32 := Scalar.remsi v39 v41
  let c0_i32_25 : BitVec 32 := 0#32
  let v44 : BitVec 1 := Scalar.cmpi .slt v42 c0_i32_25
  let c0_i32_26 : BitVec 32 := 0#32
  let v45 : BitVec 1 := Scalar.cmpi .slt v41 c0_i32_26
  let v46 : BitVec 1 := Scalar.xori v44 v45
  let c0_i32_24 : BitVec 32 := 0#32
  let v43 : BitVec 1 := Scalar.cmpi .ne v42 c0_i32_24
  let v47 : BitVec 1 := Scalar.andi v46 v43
  let v48 : BitVec 32 := Scalar.addi v42 v41
  let v49 : BitVec 32 := Scalar.select v47 v48 v42
  let c1_i32_28 : BitVec 32 := 1#32
  let v50 : BitVec 32 := Scalar.muli v49 c1_i32_28
  let v51 : BitVec 32 := Scalar.addi c0_i32_29 v50
  v51.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v52 : BitVec 32 := Scalar.addi v2 c1_i32_31
  let c4_i32_32 : BitVec 32 := 4#32
  let c0_i32_33 : BitVec 32 := 0#32
  let v53 : BitVec 1 := Scalar.cmpi .eq c4_i32_32 c0_i32_33
  let c1_i32_34 : BitVec 32 := 1#32
  let v54 : BitVec 32 := Scalar.select v53 c1_i32_34 c4_i32_32
  let v55 : BitVec 32 := Scalar.remsi v52 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c1_i32_41 : BitVec 32 := 1#32
  let v63 : BitVec 32 := Scalar.muli v62 c1_i32_41
  let v64 : BitVec 32 := Scalar.addi c0_i32_42 v63
  v64.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v71 : BitVec 32 := Scalar.addi v2 c2_i32_45
  let c4_i32_46 : BitVec 32 := 4#32
  let c0_i32_47 : BitVec 32 := 0#32
  let v72 : BitVec 1 := Scalar.cmpi .eq c4_i32_46 c0_i32_47
  let c1_i32_48 : BitVec 32 := 1#32
  let v73 : BitVec 32 := Scalar.select v72 c1_i32_48 c4_i32_46
  let v74 : BitVec 32 := Scalar.remsi v71 v73
  let c0_i32_50 : BitVec 32 := 0#32
  let v76 : BitVec 1 := Scalar.cmpi .slt v74 c0_i32_50
  let c0_i32_51 : BitVec 32 := 0#32
  let v77 : BitVec 1 := Scalar.cmpi .slt v73 c0_i32_51
  let v78 : BitVec 1 := Scalar.xori v76 v77
  let c0_i32_49 : BitVec 32 := 0#32
  let v75 : BitVec 1 := Scalar.cmpi .ne v74 c0_i32_49
  let v79 : BitVec 1 := Scalar.andi v78 v75
  let v80 : BitVec 32 := Scalar.addi v74 v73
  let v81 : BitVec 32 := Scalar.select v79 v80 v74
  let c1_i32_55 : BitVec 32 := 1#32
  let v82 : BitVec 32 := Scalar.muli v81 c1_i32_55
  let v83 : BitVec 32 := Scalar.addi c0_i32_56 v82
  v83.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v90 : BitVec 32 := Scalar.addi v2 c3_i32_59
  let c4_i32_60 : BitVec 32 := 4#32
  let c0_i32_61 : BitVec 32 := 0#32
  let v91 : BitVec 1 := Scalar.cmpi .eq c4_i32_60 c0_i32_61
  let c1_i32_62 : BitVec 32 := 1#32
  let v92 : BitVec 32 := Scalar.select v91 c1_i32_62 c4_i32_60
  let v93 : BitVec 32 := Scalar.remsi v90 v92
  let c0_i32_64 : BitVec 32 := 0#32
  let v95 : BitVec 1 := Scalar.cmpi .slt v93 c0_i32_64
  let c0_i32_65 : BitVec 32 := 0#32
  let v96 : BitVec 1 := Scalar.cmpi .slt v92 c0_i32_65
  let v97 : BitVec 1 := Scalar.xori v95 v96
  let c0_i32_63 : BitVec 32 := 0#32
  let v94 : BitVec 1 := Scalar.cmpi .ne v93 c0_i32_63
  let v98 : BitVec 1 := Scalar.andi v97 v94
  let v99 : BitVec 32 := Scalar.addi v93 v92
  let v100 : BitVec 32 := Scalar.select v98 v99 v93
  let c1_i32_69 : BitVec 32 := 1#32
  let v101 : BitVec 32 := Scalar.muli v100 c1_i32_69
  let v102 : BitVec 32 := Scalar.addi c0_i32_70 v101
  v102.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S_ : Shape := ⟨0, ![]⟩
abbrev S256 : Shape := ⟨1, ![256]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S_, .f32⟩
  | .hbm, ⟨2, _⟩ => ⟨S256, .f32⟩
  | .hbm, ⟨3, _⟩ => ⟨S_, .f32⟩
  | .hbm, ⟨4, _⟩ => ⟨S1024x256, .f32⟩
  | .hbm, ⟨5, _⟩ => ⟨S_, .i32⟩
  | .hbm, ⟨6, _⟩ => ⟨S1024x256, .f32⟩
  | .hbm, ⟨7, _⟩ => ⟨S_, .i32⟩
  | .hbm, ⟨8, _⟩ => ⟨S256, .f32⟩
  | .hbm, ⟨9, _⟩ => ⟨S1024x256, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x256, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S_, .i32⟩
  | .hbm, ⟨18, _⟩ => ⟨S1024x256, .f32⟩
  | .hbm, ⟨19, _⟩ => ⟨S_, .i32⟩
  | .hbm, ⟨20, _⟩ => ⟨S_, .i32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 1024#32, 1#32⟩
-- ==== Proof.Protocol.lean ====
/-
  The kernel's PROTOCOL on four devices, for any float values.

  Every device signals the three others' barrier semaphore and waits for three units on its own; it then copies its
  column totals (one row of 256) into a slot of each other device's gather buffer, waits for the three rows sent to it,
  and at the end for its own three copies to have left.

  A device `c` has seven cells: its barrier cell, a send cell and a receive cell per slot `s`. Slot `s` belongs to the
  distance `s + 1`: device `c`'s copy `s` goes to `up s c`, the device `s + 1` places on, into that device's slot `s`.
  Each cell has one round. The barrier cell's round has a duty per slot: duty `s` of device `c` is paid by `up s c`,
  which hands over its own slot `s` (the place `c`'s copy `s` goes to). A send cell's duty returns the share of the
  totals the copy read; a receive cell's duty hands over the slot with the row landed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's copy of the rounds and the protocol's, its duties named by slots -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Distances -/

/-- The device `s + 1` places on. -/
def up (s : Fin 3) (c : Dev nD) : Dev nD := ⟨(c.val + s.val + 1) % 4, Nat.mod_lt _ (by decide)⟩

/-- The three distances come in pairs that add up to the whole mesh. -/
theorem up_rev (s : Fin 3) (c : Dev nD) : up s.rev (up s c) = c := by revert s c; decide
theorem up_rev' (s : Fin 3) (c : Dev nD) : up s (up s.rev c) = c := by revert s c; decide

/-- Going `s + 1` places on, as a permutation of the devices. -/
def shift (s : Fin 3) : Dev nD ≃ Dev nD := ⟨up s, up s.rev, up_rev s, up_rev' s⟩

theorem dev1_eq (c : Dev nD) : (⟨k0_dev1 c, k0_dev1_lt c⟩ : Dev nD) = up 0 c := by revert c; decide +kernel
theorem dev2_eq (c : Dev nD) : (⟨k0_dev2 c, k0_dev2_lt c⟩ : Dev nD) = up 1 c := by revert c; decide +kernel
theorem dev3_eq (c : Dev nD) : (⟨k0_dev3 c, k0_dev3_lt c⟩ : Dev nD) = up 2 c := by revert c; decide +kernel
theorem dev4_eq (c : Dev nD) : (⟨k0_dev4 c, k0_dev4_lt c⟩ : Dev nD) = up 0 c := by revert c; decide +kernel
theorem dev5_eq (c : Dev nD) : (⟨k0_dev5 c, k0_dev5_lt c⟩ : Dev nD) = up 1 c := by revert c; decide +kernel
theorem dev6_eq (c : Dev nD) : (⟨k0_dev6 c, k0_dev6_lt c⟩ : Dev nD) = up 2 c := by revert c; decide +kernel

/-! ## The buffers and the cells -/

abbrev xM : Memref sig .tc .vmem S256x256 .f32 := Memref.whole cc0_stg0_0
abbrev oM : Memref sig .tc .vmem S256x256 .f32 := Memref.whole cc0_stg1_0
/-- The row a device sends: its column totals. -/
abbrev tM : Memref sig .tc .vmem S1x256 .f32 := Memref.whole cc0_scratch0
/-- The three rows it receives. -/
abbrev gM : Memref sig .tc .vmem S3x1x256 .f32 := Memref.whole cc0_scratch1

abbrev slotOff (s : Fin 3) : Fin 3 → Nat := ![s.val, 0, 0]
theorem slot_inb (s : Fin 3) : ∀ a, slotOff s a + S1x1x256.size a ≤ S3x1x256.size a := by revert s; decide

/-- Slot `s` of the gather buffer, as a load addresses it, -/
abbrev slotR (s : Fin 3) : Rect S3x1x256 := Rect.unit (s := S3x1x256) (slotOff s) S1x1x256.size (slot_inb s)
/-- and as a row a copy goes to. -/
abbrev slotM (s : Fin 3) : Memref sig .tc .vmem S1x256 .f32 :=
  (gM.slice (slotR s) (fun _ => rfl)).squeeze S1x256 squeezes_S1x1x256_S1x256

/-- The barrier semaphore of collective id 0, which the launch does not scope. -/
abbrev barS : Sem sig := (SemArray.scalar (sig.barrier 0 rfl) : Sems sig S_).sem
/-- The kernel's six copy semaphores: three for rows sent, then three for rows received. -/
abbrev xferS (j : Fin 6) : DmaSem sig := ⟨j.val + 2, by have := j.isLt; show _ < 8; omega⟩
abbrev sndJ (s : Fin 3) : Fin 6 := ⟨s.val, by omega⟩
abbrev rcvJ (s : Fin 3) : Fin 6 := ⟨s.val + 3, by omega⟩

theorem snd0 : ((cc0_scratch2.slice (Rect.unit (s := S3) ![0] ![1] inb_S3_S1_0)).squeeze S_ squeezes_S1_S_).sem = xferS (sndJ 0) := rfl
theorem snd1 : ((cc0_scratch2.slice (Rect.unit (s := S3) ![1] ![1] inb_S3_S1_1)).squeeze S_ squeezes_S1_S_).sem = xferS (sndJ 1) := rfl
theorem snd2 : ((cc0_scratch2.slice (Rect.unit (s := S3) ![2] ![1] inb_S3_S1_2)).squeeze S_ squeezes_S1_S_).sem = xferS (sndJ 2) := rfl
theorem rcv0 : ((cc0_scratch3.slice (Rect.unit (s := S3) ![0] ![1] inb_S3_S1_0)).squeeze S_ squeezes_S1_S_).sem = xferS (rcvJ 0) := rfl
theorem rcv1 : ((cc0_scratch3.slice (Rect.unit (s := S3) ![1] ![1] inb_S3_S1_1)).squeeze S_ squeezes_S1_S_).sem = xferS (rcvJ 1) := rfl
theorem rcv2 : ((cc0_scratch3.slice (Rect.unit (s := S3) ![2] ![1] inb_S3_S1_2)).squeeze S_ squeezes_S1_S_).sem = xferS (rcvJ 2) := rfl

/-- The scoped semaphores, as the launch counts them, -/
abbrev osem (j : Fin 6) : SemLoc sig := .dma (xferS j)
/-- and all seven, the barrier's first. -/
abbrev csem (k : Fin 7) : SemLoc sig := Fin.cases (.reg barS) (fun j => osem j) k

abbrev kcell (ck : Dev nD × Fin 7) : GSem nD τ sig := ((ck.1 : Thread nD τ), csem ck.2)
abbrev barCell (c : Dev nD) : GSem nD τ sig := ((c : Thread nD τ), .reg barS)
abbrev xferCell (c : Dev nD) (j : Fin 6) : GSem nD τ sig := ((c : Thread nD τ), osem j)
abbrev sndCell (c : Dev nD) (s : Fin 3) : GSem nD τ sig := xferCell c (sndJ s)
abbrev rcvCell (c : Dev nD) (s : Fin 3) : GSem nD τ sig := xferCell c (rcvJ s)

/-- The units a copy of one row counts for. -/
abbrev N : ℕ := tM.view.dmaCredit
theorem N_pos : 0 < N := View.dmaCredit_pos _ (by decide)
theorem slot_credit (s : Fin 3) : (slotM s).view.dmaCredit = N := by fin_cases s <;> rfl

/-! ## The gather buffer in three slots -/

theorem slot_set (s : Fin 3) : (slotM s).view.set = (slotR s).set := by
  show (((View.whole cc0_scratch1).slice (slotR s)).reshape S1x256 _).set = _
  rw [View.set_reshape, View.set_slice_whole]

theorem mem_slot (s : Fin 3) (i : S3x1x256.Idx) : i ∈ (slotM s).view.set ↔ (i 0).val = s.val := by
  rw [slot_set, Rect.mem_set_unit]
  have h1 : (i 1).val < 1 := (i 1).isLt
  have h2 : (i 2).val < 256 := (i 2).isLt
  constructor
  · intro h
    have := h 0
    simp at this
    omega
  · intro h a
    fin_cases a <;> simp <;> omega

/-- Slot `s`'s elements. -/
abbrev slotSet (s : Fin 3) : Finset S3x1x256.Idx := (slotM s).view.set

theorem slots_disjoint : ∀ s ∈ (Finset.univ : Finset (Fin 3)), ∀ s' ∈ (Finset.univ : Finset (Fin 3)), s ≠ s' →
    Disjoint (slotSet s) (slotSet s') := fun s _ s' _ h =>
  Finset.disjoint_left.mpr fun i hi hi' => h (Fin.ext (((mem_slot s i).mp hi).symm.trans ((mem_slot s' i).mp hi')))

theorem slots_cover : (Finset.univ : Finset (Fin 3)).biUnion slotSet = Finset.univ :=
  Finset.eq_univ_of_forall fun i => Finset.mem_biUnion.mpr ⟨i 0, Finset.mem_univ _, (mem_slot (i 0) i).mpr rfl⟩

/-- Where column `z` of the row in slot `s` sits in the buffer. -/
theorem slot_emb (s : Fin 3) (z : S1x256.Idx) : (slotM s).view.emb z = (slotR s).emb (Fin.cons ⟨0, Nat.one_pos⟩ z) := by
  show (((View.whole cc0_scratch1).slice (slotR s)).reshape S1x256 _).emb z = _
  rw [View.emb_reshape, View.emb_slice, View.emb_whole]
  show (slotR s).emb (Shape.reshapeEquiv _ z) = _
  rw [Shape.reshapeEquiv_cons_one]

/-! ## Contents -/

/-- Device `c`'s block of the array. -/
def xstg (c : Dev nD) : (cc0_stg0_0 : Ref sig .tc).ty.Contents (Elt F) :=
  (win0_0.blk (0 : Fin 1)).view.read (Elt F) ((s₀ m ρ).mem ((c : Thread nD τ).loc main_arg0))

/-- Its column totals, the row it sends. -/
def total (c : Dev nD) : (cc0_scratch0 : Ref sig .tc).ty.Contents (Elt F) := k0_pay2 (xstg m ρ c)

/-- Its gather buffer once every row has landed: slot `s` has the totals of the device `s + 1` places back. -/
def gath (c : Dev nD) : (cc0_scratch1 : Ref sig .tc).ty.Contents (Elt F) :=
  fun i : S3x1x256.Idx => total m ρ (up (i 0 : Fin 3).rev c) (Fin.tail i : S1x256.Idx)

/-- A row written to slot `s` is `gath`'s there, if it is the totals of the device `s + 1` places back. -/
theorem landed_eq (c : Dev nD) (s : Fin 3) (fd : Buf (Elt F) ((slotM s).view.loc (up s c : Thread nD τ))) :
    ∀ i ∈ (slotM s).view.set, ((slotM s).view.write (Elt F) fd (tM.view.read (Elt F) (total m ρ c)) Finset.univ) i = gath m ρ (up s c) i := by
  intro i hi
  obtain ⟨z, -, rfl⟩ := Finset.mem_map.mp hi
  rw [View.write_emb_of_mem _ _ (Finset.mem_univ z)]
  show total m ρ c z = gath m ρ (up s c) ((slotM s).view.emb z)
  rw [slot_emb]
  unfold gath
  have h0 : (((slotR s).emb (Fin.cons ⟨0, Nat.one_pos⟩ z) : S3x1x256.Idx) 0 : Fin 3) = s := Fin.ext (by
    rw [Rect.emb_apply]; show s.val + 1 * 0 = s.val; omega)
  have h1 : (Fin.tail ((slotR s).emb (Fin.cons ⟨0, Nat.one_pos⟩ z) : S3x1x256.Idx) : S1x256.Idx) = z := by
    funext a; refine Fin.ext ?_
    show (((slotR s).emb (Fin.cons ⟨0, Nat.one_pos⟩ z) : S3x1x256.Idx) a.succ).val = _
    rw [Rect.emb_apply]
    fin_cases a
    · show 0 + 1 * (z 0).val = (z 0).val; omega
    · show 0 + 1 * (z 1).val = (z 1).val; omega
  have key : ∀ (a : Fin 3) (b : S1x256.Idx), a = s → b = z → total m ρ c z = total m ρ (up a.rev (up s c)) b := by
    rintro _ _ rfl rfl; rw [up_rev]
  exact key _ _ h0 h1

def slotPts (c : Dev nD) (s : Fin 3) (f : Buf (Elt F) ((slotM s).view.loc (c : Thread nD τ))) : sProp 𝕄 :=
  (slotM s).view.loc (c : Thread nD τ) ↦[(slotM s).view.set]{fullShare} f
def totPts (c : Dev nD) (q : PosShare TreeShare) : sProp 𝕄 :=
  tM.view.loc (c : Thread nD τ) ↦[tM.view.set]{q} total m ρ c

/-- The three shares of the totals, one per copy. -/
def qs : Fin 3 → PosShare TreeShare
  | 0 => fullShare.left
  | 1 => fullShare.right.left
  | 2 => fullShare.right.right

omit [FloatOps F] in
instance slotPts_storable (c : Dev nD) (s) (f) : BI.Storable (upEmb : UEmb _ 𝕄) (slotPts (F := F) c s f) := by unfold slotPts; infer_instance
instance totPts_storable (c : Dev nD) (q) : BI.Storable (upEmb : UEmb _ 𝕄) (totPts (F := F) m ρ c q) := by unfold totPts; infer_instance

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The gather buffer is its three slots. -/
theorem gather_slots (c : Dev nD) (f : Buf (Elt F) ((c : Thread nD τ).loc cc0_scratch1)) :
    (((c : Thread nD τ).loc cc0_scratch1) ↦{fullShare} f : sProp 𝕄) = iprop(slotPts c 0 f ∗ slotPts c 1 f ∗ slotPts c 2 f) := by
  have h : (((c : Thread nD τ).loc cc0_scratch1) ↦[(Finset.univ : Finset (Fin 3)).biUnion slotSet]{fullShare} f : sProp 𝕄) = _ :=
    pointsTo_biUnion _ _ slots_disjoint
  rw [slots_cover, bigSep_fin3] at h
  exact h

/-- The totals are their three shares. -/
theorem total_shares (c : Dev nD) :
    (((c : Thread nD τ).loc cc0_scratch0) ↦{fullShare} total m ρ c : sProp 𝕄) ⊣⊢ iprop(totPts m ρ c (qs 0) ∗ totPts m ρ c (qs 1) ∗ totPts m ρ c (qs 2)) := by
  have h : ∀ q, totPts m ρ c q = (((c : Thread nD τ).loc cc0_scratch0) ↦{q} total m ρ c : sProp 𝕄) := fun q => by
    unfold totPts; rw [View.set_whole]
  rw [h, h, h]
  have h1 := fun {q : PosShare TreeShare} => pointsTo_share (Ix := Unit) (Name := ℕ) (U := UU) (Lvl := ℕ) (I := Finset.univ)
    (f := total m ρ c) (ℓ := (c : Thread nD τ).loc cc0_scratch0) (PosShare.mem_left_op_right q)
  exact ⟨h1.1.trans (sep_mono_right h1.1), (sep_mono_right h1.2).trans h1.2⟩

/-! ## The schedule -/

/-- What the device `s + 1` places on hands `c` at the barrier: its own slot `s`, and that it is at the start of that
    slot's receive cell. -/
def barPay (c : Dev nD) (s : Fin 3) : sProp 𝕄 := iprop((∃ f, slotPts (up s c) s f) ∗ reached ER (rcvCell (up s c) s) 0)
/-- What the copy semaphore `q` of `c` returns: the share of the totals sent, or the row received. -/
def xferPay (c : Dev nD) (q : ℕ) : sProp 𝕄 :=
  if q < 5 then totPts m ρ c (qs ⟨(q - 2) % 3, Nat.mod_lt _ (by decide)⟩)
  else slotPts c ⟨(q - 5) % 3, Nat.mod_lt _ (by decide)⟩ (gath m ρ c)

/-- One round per cell: a barrier cell's has a duty of one unit per slot, a copy cell's one duty of a row's units. -/
def sched : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => barPay g.1.1 d | .dma q => xferPay m ρ g.1.1 q.val
  amount_pos g _ _ _ := by
    obtain ⟨g1, g2⟩ := g
    cases g2
    · exact Nat.one_pos
    · exact N_pos

instance sched_payload_storable (g : GSem nD τ sig) (r : ℕ) (d : Fin 3) :
    BI.Storable (upEmb : UEmb _ 𝕄) ((sched (F := F) m ρ).payload g r d) := by
  obtain ⟨g1, g2⟩ := g
  cases g2
  · show BI.Storable upEmb (barPay g1.1 d); unfold barPay; infer_instance
  · rename_i q
    show BI.Storable upEmb (xferPay m ρ g1.1 q.val); unfold xferPay; split <;> infer_instance

section Sched
variable (c : Dev nD)

theorem duties_bar : (sched (F := F) m ρ).duties (barCell c) 0 = Finset.univ := by dsimp only [sched]; exact if_pos ⟨rfl, rfl⟩
theorem duties_xfer (j : Fin 6) : (sched (F := F) m ρ).duties (xferCell c j) 0 = {0} := by dsimp only [sched]; exact if_pos ⟨rfl, rfl⟩
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := rfl
theorem amount_xfer (j : Fin 6) (d : Fin 3) : (sched (F := F) m ρ).amount (xferCell c j) 0 d = N := rfl

theorem expect_bar : (sched (F := F) m ρ).expect (barCell c) 0 = 3 := by
  unfold Schedule.expect Schedule.amountOf
  rw [duties_bar, Finset.sum_congr rfl fun d _ => amount_bar m ρ c d]; rfl
theorem expect_xfer (j : Fin 6) : (sched (F := F) m ρ).expect (xferCell c j) 0 = N := by
  unfold Schedule.expect Schedule.amountOf; rw [duties_xfer, Finset.sum_singleton, amount_xfer]

theorem payload_bar (s : Fin 3) : (sched (F := F) m ρ).payload (barCell c) 0 s = barPay c s := rfl
theorem payload_snd (s d : Fin 3) : (sched (F := F) m ρ).payload (sndCell c s) 0 d = totPts m ρ c (qs s) := by
  fin_cases s <;> rfl
theorem payload_rcv (s d : Fin 3) : (sched (F := F) m ρ).payload (rcvCell c s) 0 d = slotPts c s (gath m ρ c) := by
  fin_cases s <;> rfl

/-- All of the barrier's round: the three other devices' slots. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3]; rfl
theorem rest_xfer (j : Fin 6) : bigSep ((sched (F := F) m ρ).duties (xferCell c j) 0 \ ∅) (fun d => (sched (F := F) m ρ).payload (xferCell c j) 0 d)
    = (sched (F := F) m ρ).payload (xferCell c j) 0 0 := by
  rw [Finset.sdiff_empty, duties_xfer, bigSep_singleton]

end Sched

/-! ## What a device owes at launch; the levels -/

/-- The rows it owes the others' receive cells, the copy issued first summed last, -/
def Orcv (c : Dev nD) : CellTallies nD τ sig Unit :=
  tallyAt (rcvCell (up 2 c) 2) () N + tallyAt (rcvCell (up 1 c) 1) () N + tallyAt (rcvCell (up 0 c) 0) () N
/-- and a unit to each other barrier cell, the signal sent first summed last. -/
def O₀ (c : Dev nD) : CellTallies nD τ sig Unit :=
  Orcv c + tallyAt (barCell (up 2 c)) () 1 + tallyAt (barCell (up 1 c)) () 1 + tallyAt (barCell (up 0 c)) () 1

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma q => if 5 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

theorem Orcv_pos {c : Dev nD} {g : GSem nD τ sig} {u : Unit} (h : 0 < Orcv c g u) : ∃ d s, g = rcvCell d s := by
  unfold Orcv at h
  rw [Pi.add_apply, Finsupp.add_apply, Pi.add_apply, Finsupp.add_apply] at h
  by_cases h1 : 0 < tallyAt (rcvCell (up 2 c) 2) () N g u
  · exact ⟨_, _, tally_pos h1⟩
  by_cases h2 : 0 < tallyAt (rcvCell (up 1 c) 1) () N g u
  · exact ⟨_, _, tally_pos h2⟩
  have h3 : 0 < tallyAt (rcvCell (up 0 c) 0) () N g u := by omega
  exact ⟨_, _, tally_pos h3⟩

theorem O₀_pos {c : Dev nD} {g : GSem nD τ sig} {u : Unit} (h : 0 < O₀ c g u) : (∃ d s, g = rcvCell d s) ∨ ∃ d, g = barCell d := by
  unfold O₀ at h
  rw [Pi.add_apply, Finsupp.add_apply, Pi.add_apply, Finsupp.add_apply, Pi.add_apply, Finsupp.add_apply] at h
  by_cases h1 : 0 < Orcv c g u
  · exact .inl (Orcv_pos h1)
  by_cases h2 : 0 < tallyAt (barCell (up 2 c)) () 1 g u
  · exact .inr ⟨_, tally_pos h2⟩
  by_cases h3 : 0 < tallyAt (barCell (up 1 c)) () 1 g u
  · exact .inr ⟨_, tally_pos h3⟩
  have h4 : 0 < tallyAt (barCell (up 0 c)) () 1 g u := by omega
  exact .inr ⟨_, tally_pos h4⟩

theorem lv_rcv (d : Dev nD) (s : Fin 3) (u : Unit) : lv (rcvCell d s) u = 2 := by fin_cases s <;> rfl

omit [FloatOps F] in
/-- A staging cell may be waited on while all of this is owed, or nothing is. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; show (if 5 ≤ q.val then 2 else 0) ≤ 0; rw [if_neg (by omega)])
      (fun g u hg => by
        rcases O₀_pos hg with ⟨d, s, rfl⟩ | ⟨d, rfl⟩
        · rw [lv_rcv]; decide
        · exact Nat.one_pos)
  · rw [MayWait_zero]; iintro -; iempintro

omit [FloatOps F] in
/-- At its barrier wait a device owes rows only, to receive cells. -/
theorem mayWait_bar (c : Dev nD) : (levAts L lv : sProp 𝕄) ⊢ MayWait (c : Thread nD τ) (.reg barS) () (Orcv c) :=
  MayOwe.of_cut (L := L) (lev := lv) 1 (fun p hp => by rw [Finset.mem_singleton.mp hp, L_tc]; exact Finset.mem_singleton_self _)
    (fun g u hg => by obtain ⟨d, s, rfl⟩ := Orcv_pos hg; exact Finset.mem_singleton_self _)
    (fun p hp => by rw [Finset.mem_singleton.mp hp]; exact le_rfl)
    (fun g u hg => by obtain ⟨d, s, rfl⟩ := Orcv_pos hg; rw [lv_rcv]; decide)

/-! ## The result -/

/-- The device's number, as the kernel computes it. -/
def word (c : Dev nD) : BitVec 32 := Scalar.remsi (Scalar.divsi (Dev.word c) 1#32) 4#32
/-- A number modulo 4, as the kernel computes it. -/
def mod4 (w : BitVec 32) : BitVec 32 :=
  let n : BitVec 32 := Scalar.select (Scalar.cmpi .eq 4#32 0#32) 1#32 4#32
  let r : BitVec 32 := Scalar.remsi w n
  Scalar.select (Scalar.andi (Scalar.xori (Scalar.cmpi .slt r 0#32) (Scalar.cmpi .slt n 0#32)) (Scalar.cmpi .ne r 0#32)) (Scalar.addi r n) r

/-- The row in slot `s`, as the kernel loads it. -/
def row (c : Dev nD) (s : Fin 3) : Vec F S1x1x256 .f32 := gM.view.readAt (Elt F) (slotR s).toLoadRect (gath m ρ c)

/-- What device `c` stores: its own running products times the totals of the devices before it. -/
def outAt (c : Dev nD) : (cc0_stg1_0 : Ref sig .tc).ty.Contents (Elt F) :=
  k0_pay5 (word c) (k0_pay3 (k0_pay1 (xstg m ρ c))) (k0_pay4 (word c) (row m ρ c 0))
    (Scalar.cmpi .slt (mod4 (Scalar.subi (word c) 2#32)) (word c)) (row m ρ c 1) (row m ρ c 2)

end Cert.KernelProof

end
-- ==== Proof.Body.lean ====
/-
  The kernel's BODY on one device, for any float values: one rule per operation, in the order of the program, from what
  the device starts with to what it ends with.
-/
module

public import proofs.«01_k».proof.Proof.Protocol

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts with and ends with -/

/-- Every cell's invariant, at the name it was allocated under, and that every cell is at its round. Known to all. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_of (K : Dev nD × Fin 7 → ℕ) (c : Dev nD) (k : Fin 7) :
    records m ρ K ⊢ cellInv ER (sched m ρ) (K (c, k)) (kcell (c, k)) := by
  have h : (bigSep Finset.univ fun ck : Dev nD × Fin 7 => (cellInv ER (sched m ρ) (K ck) (kcell ck) : sProp 𝕄))
      ⊢ cellInv ER (sched m ρ) (K (c, k)) (kcell (c, k)) := bigSep_elim (Finset.mem_univ (c, k))
  unfold records; iintro ⟨H, -⟩; iapply h; iexact H
theorem reached_of (K : Dev nD × Fin 7 → ℕ) (c : Dev nD) (k : Fin 7) : records m ρ K ⊢ reached ER (kcell (c, k)) 0 := by
  have h : (bigSep Finset.univ fun ck : Dev nD × Fin 7 => (reached ER (kcell ck) 0 : sProp 𝕄)) ⊢ reached ER (kcell (c, k)) 0 :=
    bigSep_elim (Finset.mem_univ (c, k))
  unfold records; iintro ⟨-, H⟩; iapply h; iexact H

/-- A device's places at its seven cells, -/
def places (c : Dev nD) : sProp 𝕄 :=
  iprop(atPos ER (barCell c) 0 ∅ 0
    ∗ (atPos ER (sndCell c 0) 0 ∅ 0 ∗ atPos ER (sndCell c 1) 0 ∅ 0 ∗ atPos ER (sndCell c 2) 0 ∅ 0)
    ∗ (atPos ER (rcvCell c 0) 0 ∅ 0 ∗ atPos ER (rcvCell c 1) 0 ∅ 0 ∗ atPos ER (rcvCell c 2) 0 ∅ 0))
/-- and the tokens of the duties it pays: per distance, the other device's barrier, that device's receive cell and its own
    send cell. -/
def payToks (c : Dev nD) : sProp 𝕄 :=
  iprop((dutyTok ER (barCell (up 0 c)) 0 2 ∗ dutyTok ER (barCell (up 1 c)) 0 1 ∗ dutyTok ER (barCell (up 2 c)) 0 0)
    ∗ (dutyTok ER (sndCell c 0) 0 0 ∗ dutyTok ER (sndCell c 1) 0 0 ∗ dutyTok ER (sndCell c 2) 0 0)
    ∗ (dutyTok ER (rcvCell (up 0 c) 0) 0 0 ∗ dutyTok ER (rcvCell (up 1 c) 1) 0 0 ∗ dutyTok ER (rcvCell (up 2 c) 2) 0 0))
/-- The units it will be paid: three at the barrier, a row's at each receive cell. -/
def dues (c : Dev nD) : sProp 𝕄 :=
  iprop(cred (tallyAt (barCell c) () 3) ∗ cred (tallyAt (rcvCell c 0) () N) ∗ cred (tallyAt (rcvCell c 1) () N) ∗ cred (tallyAt (rcvCell c 2) () N))

def ghost (K : Dev nD × Fin 7 → ℕ) (c : Dev nD) : sProp 𝕄 := iprop(records m ρ K ∗ places c ∗ payToks c)
def start (c : Dev nD) : sProp 𝕄 := iprop((∃ K, ghost m ρ K c) ∗ dues c ∗ levAts L lv)

/-- Before the body: all that, and the two scratch buffers at any contents. -/
def Φ₀ (c : Dev nD) : sProp 𝕄 :=
  iprop(start m ρ c ∗ (∃ f, ((c : Thread nD τ).loc cc0_scratch0) ↦{fullShare} f) ∗ ∃ f, ((c : Thread nD τ).loc cc0_scratch1) ↦{fullShare} f)
/-- A device's counters at zero. -/
def zeros (c : Dev nD) : sProp 𝕄 :=
  iprop(semVal (barCell c) 0 ∗ (semVal (sndCell c 0) 0 ∗ semVal (sndCell c 1) 0 ∗ semVal (sndCell c 2) 0)
    ∗ (semVal (rcvCell c 0) 0 ∗ semVal (rcvCell c 1) 0 ∗ semVal (rcvCell c 2) 0))
/-- After it: the counters at zero, and the scratch buffers. -/
def Φ₁ (c : Dev nD) : sProp 𝕄 :=
  iprop(zeros c ∗ (((c : Thread nD τ).loc cc0_scratch0) ↦{fullShare} total m ρ c) ∗ (((c : Thread nD τ).loc cc0_scratch1) ↦{fullShare} gath m ρ c))

/-- The pipeline's data: `x`'s block is staged in and unchanged, the result staged out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## Whole-buffer loads and stores -/

omit [FloatOps F] in
theorem hz : (![0, 0] : Fin 2 → Nat) = fun _ => 0 := funext fun a => by fin_cases a <;> rfl

abbrev rX : Rect S256x256 := Rect.unit (s := S256x256) ![0, 0] S256x256.size inb_S256x256_S256x256_0_0
abbrev rT : Rect S1x256 := Rect.unit (s := S1x256) ![0, 0] S1x256.size inb_S1x256_S1x256_0_0

omit [FloatOps F] in
theorem read_x (f : (cc0_stg0_0 : Ref sig .tc).ty.Contents (Elt F)) : xM.view.readAt (Elt F) rX.toLoadRect f = f :=
  Memref.readAt_unit_zero (Elt F) cc0_stg0_0 hz _ f
omit [FloatOps F] in
theorem write_out (f w : (cc0_stg1_0 : Ref sig .tc).ty.Contents (Elt F)) :
    (oM.access rX : View sig .tc _ _ _).write (Elt F) f w Finset.univ = w :=
  Memref.write_access_unit_zero_univ (Elt F) cc0_stg1_0 hz _ f w
omit [FloatOps F] in
theorem write_tot (f w : (cc0_scratch0 : Ref sig .tc).ty.Contents (Elt F)) :
    (tM.access rT : View sig .tc _ _ _).write (Elt F) f w Finset.univ = w :=
  Memref.write_access_unit_zero_univ (Elt F) cc0_scratch0 hz _ f w

/-! ## The body's three kinds of step -/

section Steps

variable (K : Dev nD × Fin 7 → ℕ) (c : Dev nD)

/-- A signal to the device `d + 1` places on hands it `c`'s slot for the copy that device sends here. -/
theorem wp_hand (d e : Fin 3) (he : e = d.rev) (n : Dev nD) (hn : n = up d c) (O O' : CellTallies nD τ sig Unit)
    (hO : O' = O + tallyAt (barCell (up d c)) () 1) (W : Waits sig Unit) (f)
    {α : Type} {Q : α → sProp 𝕄} {k : PUnit → Prog (TpuEff nD τ sig (Elt F) Λ₀ .tc) α} :
    iprop(records m ρ K ∗ owes (c : Thread nD τ) O' W ∗ dutyTok ER (barCell (up d c)) 0 e ∗ slotPts c e f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toInt) k) Q) := by
  subst hn he
  iintro ⟨#HR, HO, Ht, Hs⟩
  iapply (Rounds.wp_signal 𝒱₀ ER (sched m ρ) (c : Thread nD τ) none (dst := (up d c : Thread nD τ)) (κ := K (up d c, 0)) (d := d.rev)
      (by rw [duties_bar]; exact Finset.mem_univ _) ((amount_bar m ρ (up d c) d.rev).trans (by decide)) () O hO)
  isplitr; · iapply (inv_of m ρ K (up d c) 0); iexact HR
  isplitl [HO]; · iexact HO
  isplitl [Ht]; · iexact Ht
  isplitl [Hs]
  · rw [payload_bar]; unfold barPay; rw [up_rev]
    isplitl [Hs]; · iexists f; iexact Hs
    iapply (reached_of m ρ K c (rcvJ d.rev).succ); iexact HR
  · iapply (reached_of m ρ K (up d c) 0); iexact HR

/-- The copy of the totals to the device `s + 1` places on, into its slot `s`. -/
theorem wp_row (s : Fin 3) (n : Dev nD) (hn : n = up s c) (O O' : CellTallies nD τ sig Unit)
    (hO : O' = O + tallyAt (rcvCell (up s c) s) () N) (W : Waits sig Unit) (f)
    {hsc : (slotM s : Memref sig (Dev.tc n : Thread nD τ).2.kind .vmem S1x256 .f32).view.ref.isScScratch = false}
    {hsrc : tM.view.WordExact} {hdst : (slotM s).view.WordExact}
    {hsem : DmaTarget.Typed .vmem (osem (rcvJ s)) (.remote (Dev.tc n : Thread nD τ) (slotM s) (osem (sndJ s)) hsc)}
    {α : Type} {Q : α → sProp 𝕄} {k : PUnit → Prog (TpuEff nD τ sig (Elt F) Λ₀ .tc) α} :
    iprop(records m ρ K ∗ totPts m ρ c (qs s) ∗ slotPts (up s c) s f ∗ owes (c : Thread nD τ) O' W
        ∗ dutyTok ER (sndCell c s) 0 0 ∗ dutyTok ER (rcvCell (up s c) s) 0 0)
      ⊢ iprop(((cred (tallyAt (sndCell c s) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma tM (.remote (Dev.tc n : Thread nD τ) (slotM s) (osem (sndJ s)) hsc) (osem (rcvJ s)) hsrc hdst hsem) k) Q) := by
  subst hn
  unfold totPts slotPts
  iintro ⟨#HR, Hx, Hs, HO, Ht1, Ht2⟩
  iapply (Rounds.wp_send_pointsTo 𝒱₀ ER (sched m ρ) (c : Thread nD τ) none (κ₁ := K (c, (sndJ s).succ)) (κ₂ := K (up s c, (rcvJ s).succ))
    (r₁ := 0) (r₂ := 0) (d₁ := 0) (d₂ := 0) (fd := f) (q := qs s) (fs := total m ρ c)
    (by rw [duties_xfer]; exact Finset.mem_singleton_self _) (by rw [duties_xfer]; exact Finset.mem_singleton_self _)
    () () N (show (slotM s).view.amount (osem (rcvJ s)) = N from slot_credit s) (amount_xfer m ρ c (sndJ s) 0) (amount_xfer m ρ (up s c) (rcvJ s) 0) O hO (W := W)
    (by rw [payload_snd]; exact BI.Entails.refl _)
    (by rw [payload_rcv]; unfold slotPts; exact Entails.of_eq (pointsTo_congr (landed_eq m ρ c s f))))
  isplitr; · iapply (inv_of m ρ K c (sndJ s).succ); iexact HR
  isplitr; · iapply (inv_of m ρ K (up s c) (rcvJ s).succ); iexact HR
  isplitl [Hx]; · iexact Hx
  isplitl [Hs]; · iexact Hs
  isplitl [HO]; · iexact HO
  isplitl [Ht1]; · iexact Ht1
  isplitr; · iapply (reached_of m ρ K c (sndJ s).succ); iexact HR
  isplitl [Ht2]; · iexact Ht2
  iapply (reached_of m ρ K (up s c) (rcvJ s).succ); iexact HR

/-- A wait at one of the copy semaphores, nothing owed: its payload. -/
theorem wp_wait_xfer (j : Fin 6) (W : Waits sig Unit) {sh : Shape} {src dst : Memref sig .tc .vmem sh .f32}
    {hsrc : src.view.WordExact} {hdst : dst.view.WordExact} (hN : dst.view.dmaCredit = N)
    {α : Type} {Q : α → sProp 𝕄} {k : PUnit → Prog (TpuEff nD τ sig (Elt F) Λ₀ .tc) α} :
    iprop(records m ρ K ∗ cred (tallyAt (xferCell c j) () N) ∗ owes (c : Thread nD τ) 0 W ∗ atPos ER (xferCell c j) 0 ∅ 0)
      ⊢ iprop(((owes (c : Thread nD τ) 0 (insert (osem j, ()) W) ∗ atPos ER (xferCell c j) (0 + 1) ∅ 0
            ∗ (sched (F := F) m ρ).payload (xferCell c j) 0 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xferS j) src dst hsrc hdst) k) Q) := by
  iintro ⟨#HR, Hc, HO, Hat⟩ Hk
  iapply (Rounds.wp_wait_rest_token 𝒱₀ ER (sched m ρ) (c : Thread nD τ) none (κ := K (c, j.succ))
      (wpE_waitDma2_eq 𝒱₀ (c : Thread nD τ) none Set.univ) (Set.mem_univ _) () (O := 0) (W := W) (R := 0) (m := 0) (T := ∅)
      (by rw [Nat.zero_add, hN, expect_xfer m ρ c j])) $$ [Hc HO Hat]
  · isplitr; · iapply (inv_of m ρ K c j.succ); iexact HR
    isplitl [Hc]; · rw [hN]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_xfer m ρ c j)); iexact Hpay

/-- A cell past its one round closes: its counter, at zero, is the device's. -/
theorem close_cell (k' : Fin 7) :
    iprop(records m ρ K ∗ atPos ER (kcell (c, k')) (0 + 1) ∅ 0) ⊢ |={Set.univ}=> (semVal (kcell (c, k')) 0 : sProp 𝕄) := by
  iintro ⟨#HR, Hat⟩
  iapply (Rounds.cell_close ER (sched m ρ) (Set.mem_univ (K (c, k'))) (fun h => h) (R := 0 + 1) (duties_later m ρ (kcell (c, k'))))
  isplitr; · iapply (inv_of m ρ K c k'); iexact HR
  iexact Hat

/-- All seven. -/
theorem close_all :
    iprop(records m ρ K ∗ atPos ER (barCell c) (0 + 1) ∅ 0
        ∗ (atPos ER (sndCell c 0) (0 + 1) ∅ 0 ∗ atPos ER (sndCell c 1) (0 + 1) ∅ 0 ∗ atPos ER (sndCell c 2) (0 + 1) ∅ 0)
        ∗ (atPos ER (rcvCell c 0) (0 + 1) ∅ 0 ∗ atPos ER (rcvCell c 1) (0 + 1) ∅ 0 ∗ atPos ER (rcvCell c 2) (0 + 1) ∅ 0))
      ⊢ |={Set.univ}=> (zeros c : sProp 𝕄) := by
  iintro ⟨#HR, HB, ⟨HS0, HS1, HS2⟩, HV0, HV1, HV2⟩
  imod (close_cell m ρ K c 0) $$ [HB] with ZB
  · isplitr; · iexact HR
    iexact HB
  imod (close_cell m ρ K c (sndJ 0).succ) $$ [HS0] with ZS0
  · isplitr; · iexact HR
    iexact HS0
  imod (close_cell m ρ K c (sndJ 1).succ) $$ [HS1] with ZS1
  · isplitr; · iexact HR
    iexact HS1
  imod (close_cell m ρ K c (sndJ 2).succ) $$ [HS2] with ZS2
  · isplitr; · iexact HR
    iexact HS2
  imod (close_cell m ρ K c (rcvJ 0).succ) $$ [HV0] with ZV0
  · isplitr; · iexact HR
    iexact HV0
  imod (close_cell m ρ K c (rcvJ 1).succ) $$ [HV1] with ZV1
  · isplitr; · iexact HR
    iexact HV1
  imod (close_cell m ρ K c (rcvJ 2).succ) $$ [HV2] with ZV2
  · isplitr; · iexact HR
    iexact HV2
  imodintro
  unfold zeros
  isplitl [ZB]; · iexact ZB
  isplitl [ZS0 ZS1 ZS2]
  · isplitl [ZS0]; · iexact ZS0
    isplitl [ZS1]; · iexact ZS1
    iexact ZS2
  · isplitl [ZV0]; · iexact ZV0
    isplitl [ZV1]; · iexact ZV1
    iexact ZV2

end Steps

/-! ## The body -/

section Body

variable (K : Dev nD × Fin 7 → ℕ)

theorem slot0 : (gM.slice (Rect.unit (s := S3x1x256) ![0, 0, 0] ![1, 1, 256] inb_S3x1x256_S1x1x256_0_0_0) (fun _ => rfl)).squeeze S1x256 squeezes_S1x1x256_S1x256 = slotM 0 := rfl
theorem slot1 : (gM.slice (Rect.unit (s := S3x1x256) ![1, 0, 0] ![1, 1, 256] inb_S3x1x256_S1x1x256_1_0_0) (fun _ => rfl)).squeeze S1x256 squeezes_S1x1x256_S1x256 = slotM 1 := rfl
theorem slot2 : (gM.slice (Rect.unit (s := S3x1x256) ![2, 0, 0] ![1, 1, 256] inb_S3x1x256_S1x1x256_2_0_0) (fun _ => rfl)).squeeze S1x256 squeezes_S1x1x256_S1x256 = slotM 2 := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ dues c ∗ levAts L lv ∗ (∃ f, ((c : Thread nD τ).loc cc0_scratch0) ↦{fullShare} f)
      ∗ ∃ f, ((c : Thread nD τ).loc cc0_scratch1) ↦{fullShare} f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  simp only [snd0, snd1, snd2, rcv0, rcv1, rcv2, slot0, slot1, slot2]
  unfold bodyPre ghost dues places payToks
  iintro ⟨⟨⟨⟨#HR, ⟨HatB, ⟨HaS0, HaS1, HaS2⟩, HaV0, HaV1, HaV2⟩, ⟨HtB0, HtB1, HtB2⟩, ⟨HtS0, HtS1, HtS2⟩, HtV0, HtV1, HtV2⟩,
      ⟨HcB, HcV0, HcV1, HcV2⟩, #Hlev, ⟨%f0, Htot⟩, ⟨%f1, Hg⟩⟩,
    Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  -- the block in, its totals out
  iapply (wp_load 𝒱₀ (c : Thread nD τ) none Set.univ (m := xM) (Finset.subset_univ _)) $$ Hx; iintro Hx
  rw [read_x]
  iapply (wp_load 𝒱₀ (c : Thread nD τ) none Set.univ (m := tM) (Finset.subset_univ _)) $$ Htot; iintro Htot
  iapply (wp_store 𝒱₀ (c : Thread nD τ) none Set.univ (m := tM) (r := rT) (Mk := Finset.univ) (Finset.subset_univ _)) $$ Htot; iintro Htot
  rw [write_tot, show k0_pay2 (xstg m ρ c) = total m ρ c from rfl]
  -- the gather buffer's slots, one to each signal
  ihave Hg := (Entails.of_eq (gather_slots c f1)) $$ Hg
  icases Hg with ⟨Hg0, Hg1, Hg2⟩
  iapply (wp_hand m ρ K c 0 2 rfl _ (dev1_eq c) (Orcv c + tallyAt (barCell (up 2 c)) () 1 + tallyAt (barCell (up 1 c)) () 1) (O₀ c) rfl W f1) $$ [HO HtB0 Hg2]
  · isplitr; · iexact HR
    isplitl [HO]; · iexact HO
    isplitl [HtB0] <;> iassumption
  iintro HO
  iapply (wp_hand m ρ K c 1 1 rfl _ (dev2_eq c) (Orcv c + tallyAt (barCell (up 2 c)) () 1) _ rfl W f1) $$ [HO HtB1 Hg1]
  · isplitr; · iexact HR
    isplitl [HO]; · iexact HO
    isplitl [HtB1] <;> iassumption
  iintro HO
  iapply (wp_hand m ρ K c 2 0 rfl _ (dev3_eq c) (Orcv c) _ rfl W f1) $$ [HO HtB2 Hg0]
  · isplitr; · iexact HR
    isplitl [HO]; · iexact HO
    isplitl [HtB2] <;> iassumption
  iintro HO
  -- the wait for the three others
  iapply (Rounds.wp_wait_rest_token 𝒱₀ ER (sched m ρ) (c : Thread nD τ) none (κ := K (c, 0))
      (wpE_semWait_eq 𝒱₀ (c : Thread nD τ) none Set.univ) (Set.mem_univ _) () (O := Orcv c) (W := W) (R := 0) (m := 0) (T := ∅)
      (by rw [expect_bar]; decide)) $$ [HcB HO HatB]
  · isplitr; · iapply (inv_of m ρ K c 0); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨⟨%n0, Hn0⟩, -⟩, ⟨⟨%n1, Hn1⟩, -⟩, ⟨%n2, Hn2⟩, -⟩
  -- the three copies, each reading a share of the totals
  ihave Htot := (total_shares m ρ c).1 $$ Htot
  icases Htot with ⟨Hq0, Hq1, Hq2⟩
  iapply (wp_row m ρ K c 0 _ (dev4_eq c) (tallyAt (rcvCell (up 2 c) 2) () N + tallyAt (rcvCell (up 1 c) 1) () N) (Orcv c) rfl _ n0) $$ [Hq0 Hn0 HO HtS0 HtV0]
  · isplitr; · iexact HR
    isplitl [Hq0]; · iexact Hq0
    isplitl [Hn0]; · iexact Hn0
    isplitl [HO]; · iexact HO
    isplitl [HtS0] <;> iassumption
  iintro ⟨HcS0, HO⟩
  iapply (wp_row m ρ K c 1 _ (dev5_eq c) (tallyAt (rcvCell (up 2 c) 2) () N) _ rfl _ n1) $$ [Hq1 Hn1 HO HtS1 HtV1]
  · isplitr; · iexact HR
    isplitl [Hq1]; · iexact Hq1
    isplitl [Hn1]; · iexact Hn1
    isplitl [HO]; · iexact HO
    isplitl [HtS1] <;> iassumption
  iintro ⟨HcS1, HO⟩
  iapply (wp_row m ρ K c 2 _ (dev6_eq c) 0 _ (zero_add _).symm _ n2) $$ [Hq2 Hn2 HO HtS2 HtV2]
  · isplitr; · iexact HR
    isplitl [Hq2]; · iexact Hq2
    isplitl [Hn2]; · iexact Hn2
    isplitl [HO]; · iexact HO
    isplitl [HtS2] <;> iassumption
  iintro ⟨HcS2, HO⟩
  -- the three rows in
  iapply (wp_wait_xfer m ρ K c (rcvJ 0) _ (dst := slotM 0) (slot_credit 0)) $$ [HcV0 HO HaV0]
  · isplitr; · iexact HR
    isplitl [HcV0]; · iexact HcV0
    isplitl [HO] <;> iassumption
  iintro ⟨HO, HaV0, Hg0⟩
  iapply (wp_wait_xfer m ρ K c (rcvJ 1) _ (dst := slotM 1) (slot_credit 1)) $$ [HcV1 HO HaV1]
  · isplitr; · iexact HR
    isplitl [HcV1]; · iexact HcV1
    isplitl [HO] <;> iassumption
  iintro ⟨HO, HaV1, Hg1⟩
  iapply (wp_wait_xfer m ρ K c (rcvJ 2) _ (dst := slotM 2) (slot_credit 2)) $$ [HcV2 HO HaV2]
  · isplitr; · iexact HR
    isplitl [HcV2]; · iexact HcV2
    isplitl [HO] <;> iassumption
  iintro ⟨HO, HaV2, Hg2⟩
  ihave Hg0 := (Entails.of_eq (payload_rcv m ρ c 0 0)) $$ Hg0
  ihave Hg1 := (Entails.of_eq (payload_rcv m ρ c 1 0)) $$ Hg1
  ihave Hg2 := (Entails.of_eq (payload_rcv m ρ c 2 0)) $$ Hg2
  ihave Hg := (Entails.of_eq (gather_slots c (gath m ρ c)).symm) $$ [Hg0 Hg1 Hg2]
  · isplitl [Hg0]; · iexact Hg0
    isplitl [Hg1] <;> iassumption
  -- they are read, the result stored
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the three rows sent
  iapply (wp_wait_xfer m ρ K c (sndJ 0) _ (dst := tM) rfl) $$ [HcS0 HO HaS0]
  · isplitr; · iexact HR
    isplitl [HcS0]; · iexact HcS0
    isplitl [HO] <;> iassumption
  iintro ⟨HO, HaS0, Hq0⟩
  iapply (wp_wait_xfer m ρ K c (sndJ 1) _ (dst := tM) rfl) $$ [HcS1 HO HaS1]
  · isplitr; · iexact HR
    isplitl [HcS1]; · iexact HcS1
    isplitl [HO] <;> iassumption
  iintro ⟨HO, HaS1, Hq1⟩
  iapply (wp_wait_xfer m ρ K c (sndJ 2) _ (dst := tM) rfl) $$ [HcS2 HO HaS2]
  · isplitr; · iexact HR
    isplitl [HcS2]; · iexact HcS2
    isplitl [HO] <;> iassumption
  iintro ⟨HO, HaS2, Hq2⟩
  ihave Hq0 := (Entails.of_eq (payload_snd m ρ c 0 0)) $$ Hq0
  ihave Hq1 := (Entails.of_eq (payload_snd m ρ c 1 0)) $$ Hq1
  ihave Hq2 := (Entails.of_eq (payload_snd m ρ c 2 0)) $$ Hq2
  ihave Htot := (total_shares m ρ c).2 $$ [Hq0 Hq1 Hq2]
  · isplitl [Hq0]; · iexact Hq0
    isplitl [Hq1] <;> iassumption
  -- the cells close
  imod (close_all m ρ K c) $$ [HatB HaS0 HaS1 HaS2 HaV0 HaV1 HaV2] with Hz
  · isplitr; · iexact HR
    isplitl [HatB]; · iexact HatB
    isplitl [HaS0 HaS1 HaS2]
    · isplitl [HaS0]; · iexact HaS0
      isplitl [HaS1] <;> iassumption
    · isplitl [HaV0]; · iexact HaV0
      isplitl [HaV1] <;> iassumption
  rw [wp_ret]; imodintro
  iapply Hk
  unfold bodyPost Φ₁ Dat.owesAt Pipeline.owesWithin
  rw [show (dats m ρ 0 c).owed t0_0.succ = 0 from rfl]
  isplitl [Hz Htot Hg]
  · isplitl [Hz]; · iexact Hz
    isplitl [Htot] <;> iassumption
  isplitl [HO]
  · iexists _
    isplitr
    rotate_left
    · iexact HO
    · ipureintro; exact fun _ _ => Or.inl trivial
  isplitl [Hx]
  · iexists _; isplitr; · (ipureintro; rfl)
    iexact Hx
  iexists _; isplitr
  rotate_left
  · iexact Hout
  · ipureintro; rfl

/-- The library's body obligation on device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 2) t0_0 d))
      ∗ (∃ d, stg c cc0_stg1_0 ((dats m ρ 0 c).before (1 : Fin 2) t0_0 d)))
    ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold Φ₀ start
  iintro ⟨⟨⟨⟨%K, Hgh⟩, Hd, Hl⟩, H0, H1⟩, Ho, Hx, Hout⟩
  iapply (sound_body m ρ K c fun _ => bodyPost m ρ c)
  unfold bodyPre
  isplitr []
  · isplitl [Hgh Hd Hl H0 H1]
    · isplitl [Hgh]; · iexact Hgh
      isplitl [Hd]; · iexact Hd
      isplitl [Hl]; · iexact Hl
      isplitl [H0] <;> iassumption
    isplitl [Ho]; · iexact Ho
    isplitl [Hx] <;> iassumption
  · iintro H; iexact H

end Body

end Cert.KernelProof

end
-- ==== Proof.Launch.lean ====
/-
  The kernel LAUNCHED on the four devices, for any float values: the cells allocated and the duty tokens dealt, then the
  run of @main — it terminates from every memory with zero counters, with the computed result on every device, `x`
  unchanged and every counter at zero.
-/
module

public import proofs.«01_k».proof.Proof.Body
public import Idealize.ShloMosaic.Lib.Pipeline.CollectiveSegs

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  fin_cases k <;> fin_cases k' <;> first | rfl | exact absurd h (by decide)

theorem kcell_injective : Function.Injective (kcell : Dev nD × Fin 7 → GSem nD τ sig) := fun ⟨c, k⟩ ⟨c', k'⟩ h =>
  Prod.ext (congrArg (fun g : GSem nD τ sig => g.1.1) h) (csem_injective (congrArg Prod.snd h))
def kcells : Finset (GSem nD τ sig) := Finset.univ.map ⟨kcell, kcell_injective⟩

/-- The duty tokens of a device's cells, by kind (barrier, send, receive) and slot: the semaphore and the duty. -/
def tokSem : Fin 3 × Fin 3 → SemLoc sig × Fin 3
  | (0, s) => (.reg barS, s)
  | (1, s) => (osem (sndJ s), 0)
  | (2, s) => (osem (rcvJ s), 0)
abbrev tokOf (x : Dev nD × Fin 3 × Fin 3) : GSem nD τ sig × ℕ × Fin 3 := (((x.1 : Thread nD τ), (tokSem x.2).1), 0, (tokSem x.2).2)
theorem tokSem_injective : Function.Injective tokSem := by decide
theorem tokOf_injective : Function.Injective tokOf := fun ⟨c, i⟩ ⟨c', i'⟩ h =>
  Prod.ext (congrArg (fun x : GSem nD τ sig × ℕ × Fin 3 => x.1.1.1) h)
    (tokSem_injective (congrArg (fun x : GSem nD τ sig × ℕ × Fin 3 => (x.1.2, x.2.2)) h))
def ktoks : Finset (GSem nD τ sig × ℕ × Fin 3) := Finset.univ.map ⟨tokOf, tokOf_injective⟩

def u₀ : UU := (initOf (Pipeline.cells cfgs cellOf_inj) (Pipeline.launchToks cfgs cellOf_inj), initOf kcells ktoks)

def toks (c : Dev nD) : sProp 𝕄 :=
  iprop((dutyTok ER (barCell c) 0 0 ∗ dutyTok ER (barCell c) 0 1 ∗ dutyTok ER (barCell c) 0 2)
    ∗ (dutyTok ER (sndCell c 0) 0 0 ∗ dutyTok ER (sndCell c 1) 0 0 ∗ dutyTok ER (sndCell c 2) 0 0)
    ∗ (dutyTok ER (rcvCell c 0) 0 0 ∗ dutyTok ER (rcvCell c 1) 0 0 ∗ dutyTok ER (rcvCell c 2) 0 0))

/-- What the launch deals device `c`, -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)
/-- and what it has once all cells are allocated. -/
def G' (c : Dev nD) : sProp 𝕄 := iprop(∃ K, ghost m ρ K c)

omit [FloatOps F] in
/-- Brackets to the left of a separating conjunction may be left out. -/
theorem sep_flat (A B C : sProp 𝕄) : iprop((A ∗ B) ∗ C) = iprop(A ∗ B ∗ C) :=
  have out : iprop((A ∗ B) ∗ C) ⊢ iprop(A ∗ B ∗ C) := BI.sep_assoc
  have back : iprop(A ∗ B ∗ C) ⊢ iprop((A ∗ B) ∗ C) := BI.sep_assoc'
  equiv_iff.mp ⟨out, back⟩

omit [FloatOps F] in
/-- Over the seven cells: the barrier's, the send cells', the receive cells'. -/
theorem bigSep_fin7 (Φ : Fin 7 → sProp 𝕄) :
    bigSep Finset.univ Φ = iprop(Φ 0 ∗ (Φ 1 ∗ Φ 2 ∗ Φ 3) ∗ (Φ 4 ∗ Φ 5 ∗ Φ 6)) := by
  have h : bigSep Finset.univ Φ = iprop(Φ 0 ∗ Φ 1 ∗ Φ 2 ∗ Φ 3 ∗ Φ 4 ∗ Φ 5 ∗ Φ 6) :=
    bigSep_univ_eq_bigSepL [0, 1, 2, 3, 4, 5, 6] (by decide) (by decide) Φ
  rw [h]; simp only [sep_flat]

theorem fund : BI.own (ER (initOf kcells ktoks)) ⊢ (|==> bigSep Finset.univ (G m ρ) : sProp 𝕄) := by
  have hX (Φ : GSem nD τ sig → sProp 𝕄) : bigSep kcells Φ = bigSep Finset.univ fun c : Dev nD => bigSep Finset.univ fun k : Fin 7 => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by rw [bigSep_univ_prod, bigSep_fin3, bigSep_fin3, bigSep_fin3, bigSep_fin3]; rfl
  iintro HX
  imod (Rounds.fund ER (sched m ρ) kcells ktoks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The launch's counters, own and unscoped, are a device's seven. -/
theorem sems0_eq (c : Dev nD) :
    iprop(unscopedSems0 c ∗ Pipeline.ownSems0 (Ix := Unit) (Name := ℕ) (U := UU) (Lvl := ℕ) (Val := Elt F) (τ := τ) osem c) = (zeros c : sProp 𝕄) := by
  have hb : (unscopedSems0 c : sProp 𝕄) = semVal (barCell c) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = iprop(semVal (sndCell c 0) 0 ∗ semVal (sndCell c 1) 0 ∗ semVal (sndCell c 2) 0
        ∗ semVal (rcvCell c 0) 0 ∗ semVal (rcvCell c 1) 0 ∗ semVal (rcvCell c 2) 0) := by
    rw [Pipeline.ownSems0_eq_of_list c osem [0, 1, 2, 3, 4, 5] (by decide) (by decide)]; rfl
  rw [hb, ho]; unfold zeros; simp only [sep_flat]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  have hz : (zeros c : sProp 𝕄) = bigSep Finset.univ fun k : Fin 7 => semVal (kcell (c, k)) 0 :=
    (bigSep_fin7 fun k : Fin 7 => (semVal (kcell (c, k)) 0 : sProp 𝕄)).symm
  unfold G
  iintro ⟨Hos, Hus, Hst, Hrest⟩
  ihave Hv := (Entails.of_eq ((sems0_eq (F := F) c).trans hz)) $$ [Hos Hus]
  · isplitl [Hus] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv] <;> iassumption

omit [FloatOps F] in
/-- The tokens dealt to the devices that pay with them: per distance, a barrier's and a receive cell's go to the device
    that many places back. -/
theorem toks_around : (bigSep Finset.univ fun c : Dev nD => (toks c : sProp 𝕄)) ⊢ bigSep Finset.univ fun c : Dev nD => payToks c := by
  unfold toks payToks
  simp only [bigSep_sep']
  rw [bigSep_univ_equiv (shift 2) (fun c : Dev nD => (dutyTok ER (barCell c) 0 0 : sProp 𝕄)),
    bigSep_univ_equiv (shift 1) (fun c : Dev nD => (dutyTok ER (barCell c) 0 1 : sProp 𝕄)),
    bigSep_univ_equiv (shift 0) (fun c : Dev nD => (dutyTok ER (barCell c) 0 2 : sProp 𝕄)),
    bigSep_univ_equiv (shift 0) (fun c : Dev nD => (dutyTok ER (rcvCell c 0) 0 0 : sProp 𝕄)),
    bigSep_univ_equiv (shift 1) (fun c : Dev nD => (dutyTok ER (rcvCell c 1) 0 0 : sProp 𝕄)),
    bigSep_univ_equiv (shift 2) (fun c : Dev nD => (dutyTok ER (rcvCell c 2) 0 0 : sProp 𝕄))]
  iintro ⟨⟨B0, B1, B2⟩, HS, V0, V1, V2⟩
  isplitl [B0 B1 B2]
  · isplitl [B2]; · iexact B2
    isplitl [B1]; · iexact B1
    iexact B0
  isplitl [HS]; · iexact HS
  isplitl [V0]; · iexact V0
  isplitl [V1]; · iexact V1
  iexact V2

omit [FloatOps F] in
theorem bigSep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) :
    iprop(records m ρ K ∗ ((bigSep Finset.univ fun k : Fin 7 => (atPos ER (kcell (c, k)) 0 ∅ 0 : sProp 𝕄)) ∗ payToks c)) ⊢ G' m ρ c := by
  unfold G' ghost
  rw [show (bigSep Finset.univ fun k : Fin 7 => (atPos ER (kcell (c, k)) 0 ∅ 0 : sProp 𝕄)) = places c from bigSep_fin7 _]
  iintro H; iexists K; iexact H

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_known (R := records m ρ K) fun c _ => ghost_intro m ρ K c)
  isplitr
  · unfold records; isplitl; · iexact HI
    iexact HR
  · iapply (Entails.of_eq (bigSep_sep' Finset.univ (fun c : Dev nD => bigSep Finset.univ fun k : Fin 7 => (atPos ER (kcell (c, k)) 0 ∅ 0 : sProp 𝕄)) payToks).symm)
    isplitl [Hat] <;> iassumption

/-- Every device's semaphores at once, own and unscoped, become the cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What is owed one cell, seen at another. -/
theorem tally_bar (a c : Dev nD) : (tallyAt (barCell a) () 1 : CellTallies nD τ sig Unit) (barCell c) () = if a = c then 1 else 0 := by
  rw [tallyAt_apply]
  refine if_congr ⟨fun h => (congrArg (fun g : GSem nD τ sig => g.1.1) h.1).symm, fun h => ⟨by rw [h], rfl⟩⟩ rfl rfl
theorem tally_rcv (a c : Dev nD) (s t : Fin 3) :
    (tallyAt (rcvCell a s) () N : CellTallies nD τ sig Unit) (rcvCell c t) () = if a = c ∧ s = t then N else 0 := by
  rw [tallyAt_apply]
  refine if_congr ⟨fun h => ⟨(congrArg (fun g : GSem nD τ sig => g.1.1) h.1).symm, ?_⟩, fun h => ⟨by rw [h.1, h.2], rfl⟩⟩ rfl rfl
  have : (SemLoc.dma (xferS (rcvJ t)) : SemLoc sig) = .dma (xferS (rcvJ s)) := congrArg Prod.snd h.1
  clear h
  revert this; revert s t; decide
theorem rcv_ne_bar (a c : Dev nD) (s : Fin 3) : rcvCell a s ≠ barCell c := fun h => by cases congrArg Prod.snd h

theorem owed_bar (d c : Dev nD) : O₀ d (barCell c) () = (if up 2 d = c then 1 else 0) + (if up 1 d = c then 1 else 0) + (if up 0 d = c then 1 else 0) := by
  unfold O₀ Orcv
  simp only [Pi.add_apply, Finsupp.add_apply, tally_bar, tallyAt_ne_cell (rcv_ne_bar _ _ _).symm, Finsupp.zero_apply, Nat.zero_add]

theorem owed_rcv (d c : Dev nD) (t : Fin 3) : O₀ d (rcvCell c t) () = if up t d = c then N else 0 := by
  unfold O₀ Orcv
  simp only [Pi.add_apply, Finsupp.add_apply, tallyAt_ne_cell (rcv_ne_bar _ _ _), Finsupp.zero_apply, Nat.add_zero]
  rw [tally_rcv (up 2 d) c 2 t, tally_rcv (up 1 d) c 1 t, tally_rcv (up 0 d) c 0 t]
  fin_cases t <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_rcv (c : Dev nD) (s : Fin 3) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_congr rfl fun d _ => owed_rcv d c s,
    Finset.sum_eq_single (up s.rev c), if_pos (up_rev' s c)]
  · intro d _ hd
    exact if_neg fun h => hd (by rw [← h, up_rev])
  · exact fun h => absurd (Finset.mem_univ _) h

omit [FloatOps F] in
theorem creds (c : Dev nD) : (Pipeline.launchCred O₀ c : sProp 𝕄) ⊢ dues c := by
  have h : (Pipeline.launchCred O₀ c : sProp 𝕄)
      ⊢ iprop(cred (tallyOn (barCell c) (launchCredit (Pipeline.owing O₀) 0 (barCell c)))
        ∗ cred (tallyOn (rcvCell c 0) (launchCredit (Pipeline.owing O₀) 0 (rcvCell c 0)))
        ∗ cred (tallyOn (rcvCell c 1) (launchCredit (Pipeline.owing O₀) 0 (rcvCell c 1)))
        ∗ cred (tallyOn (rcvCell c 2) (launchCredit (Pipeline.owing O₀) 0 (rcvCell c 2)))) := by
    unfold Pipeline.launchCred
    rw [bigSep_univ_at _ (SemLoc.reg barS)]
    refine sep_mono_right ?_
    rw [bigSep_erase (i := osem (rcvJ 0)) (by decide), bigSep_erase (i := osem (rcvJ 1)) (by decide)]
    exact sep_mono_right (sep_mono_right (bigSep_elim (i := osem (rcvJ 2)) (by decide)))
  rw [launch_bar, launch_rcv, launch_rcv, launch_rcv] at h
  exact h

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [← sems0_eq]
  iintro ⟨⟨Hu, Ho⟩, H0, H1⟩
  isplitl [Hu]; · iexact Hu
  isplitl [Ho]; · iexact Ho
  isplitl [H0]
  · iexists _; iexact H0
  · iexists _; iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds after the run. -/
def finalA (c : Dev nD) (w : Fin cfg0.W) : Buf (Elt F) ((cfg0.win w).arr.view.loc (c : Thread nD τ)) := (dats m ρ 0 c).arrAt w cfg0.N

/-- From any memory with zero counters every weakly fair execution on the four devices terminates, and every final state has
    each device's arrays at the computed contents and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held, -/
theorem finalA_x (c : Dev nD) : finalA m ρ c (0 : Fin 2) = (s₀ m ρ).mem (win0_0.arr.view.loc (c : Thread nD τ)) :=
  (dats (F := F) m ρ 0 c).arrAt_in (0 : Fin 2) rfl _

/-- and the result array what the body computed: its one block is the whole array. -/
theorem finalA_out (c : Dev nD) : finalA m ρ c (1 : Fin 2) = outAt m ρ c := by
  have h : (win0_1.blk (0 : Fin 1)).view.read (Elt F) (finalA m ρ c (1 : Fin 2)) = outAt m ρ c := by
    refine (congrArg _ ((dats m ρ 0 c).arrAt_succ (1 : Fin 2) t0_0)).trans ?_
    rw [if_pos (flush0_1 t0_0)]
    exact View.read_write_univ _ _
  exact (Memref.read_access_unit_zero (Elt F) main_v1 (by funext a; fin_cases a <;> rfl) _ _).symm.trans h

/-- What a device's body reads is its `x` array. -/
theorem xstg_eq (c : Dev nD) : xstg m ρ c = m ((c : Thread nD τ).loc main_arg0) :=
  Memref.read_access_unit_zero (Elt F) main_arg0 (by funext a; fin_cases a <;> rfl) _ _

end Cert.KernelProof

end
-- ==== Proof.Products.lean ====
/-
  Running PRODUCTS of extended reals, and what the kernel computes them by: for values that are not negative, the
  exponential of a sum of logarithms is the product. At the ideal values this holds of `0` and `∞` too, since the
  logarithm of `0` is `-∞`, which a sum keeps, as `0` is kept by a product.
-/
module

public import Idealize.ShloMosaic.PureOps.Ideal.Laws

@[expose] public section

noncomputable section

namespace Cert.Products

open Idealize.ShloMosaic
open scoped BigOperators

/-- The exponential at `-∞`, at `∞` and at zero. -/
theorem exp_bot : Ideal.exp ⊥ = 0 := rfl
theorem exp_top : Ideal.exp ⊤ = ⊤ := rfl
theorem exp_real (r : ℝ) : Ideal.exp (r : EReal) = ((Real.exp r : ℝ) : EReal) := rfl
theorem exp_zero : Ideal.exp 0 = 1 := by
  rw [← EReal.coe_zero, exp_real, Real.exp_zero, EReal.coe_one]

/-- The logarithm at `∞` and at zero. -/
theorem log_top : Ideal.log ⊤ = ⊤ := rfl
theorem log_zero : Ideal.log ((0 : ℝ) : EReal) = ⊥ := by rw [Ideal.log_coe, if_pos le_rfl]

/-- One factor taken out of the exponential of a sum of logarithms. -/
theorem exp_log_add {a : EReal} (ha : 0 ≤ a) (S : EReal) : Ideal.exp (Ideal.log a + S) = a * Ideal.exp S := by
  induction a with
  | bot => exact absurd ha (by decide)
  | top =>
    rw [log_top]
    induction S with
    | bot => rw [EReal.add_bot, exp_bot, mul_zero]
    | top => rw [EReal.top_add_top, exp_top, EReal.top_mul_top]
    | coe s => rw [EReal.top_add_coe, exp_top, exp_real, EReal.top_mul_coe_of_pos (Real.exp_pos s)]
  | coe r =>
    have hr : 0 ≤ r := EReal.coe_nonneg.mp ha
    rcases hr.eq_or_lt with rfl | hpos
    · rw [log_zero, EReal.bot_add, exp_bot, EReal.coe_zero, zero_mul]
    · rw [Ideal.log_coe, if_neg (not_le.mpr hpos)]
      induction S with
      | bot => rw [EReal.add_bot, exp_bot, mul_zero]
      | top => rw [EReal.coe_add_top, exp_top, EReal.coe_mul_top_of_pos hpos]
      | coe s => rw [← EReal.coe_add, exp_real, exp_real, Real.exp_add, Real.exp_log hpos, EReal.coe_mul]

/-- **The exponential of a sum of logarithms is the product**, for values that are not negative. -/
theorem exp_sum_log {ι : Type} (s : Finset ι) (f : ι → EReal) (hf : ∀ i, 0 ≤ f i) :
    Ideal.exp (∑ i ∈ s, Ideal.log (f i)) = ∏ i ∈ s, f i := by
  classical
  induction s using Finset.induction_on with
  | empty => rw [Finset.sum_empty, Finset.prod_empty, exp_zero]
  | insert i s hi ih => rw [Finset.sum_insert hi, Finset.prod_insert hi, exp_log_add (hf i), ih]

/-- A sum over the first `n` places with a weight one up to place `r` and zero after is the sum over the places up to
    `r`, whatever the terms: zero times an infinite term is zero. -/
theorem sum_weighted {n : ℕ} (f : ℕ → EReal) (w : Fin n → EReal) (r : ℕ) (hr : r < n)
    (hw : ∀ k : Fin n, w k = if k.val ≤ r then 1 else 0) :
    ∑ k : Fin n, w k * f k.val = ∑ k ∈ Finset.range (r + 1), f k := by
  have h : ∀ k : Fin n, w k * f k.val = if k.val ∈ Finset.range (r + 1) then f k.val else 0 := fun k => by
    rw [hw k]
    by_cases hk : k.val ≤ r
    · rw [if_pos hk, if_pos (Finset.mem_range.mpr (by omega)), one_mul]
    · rw [if_neg hk, if_neg (fun h => hk (by have := Finset.mem_range.mp h; omega)), zero_mul]
  rw [Finset.sum_congr rfl fun k _ => h k, Fin.sum_univ_eq_sum_range (fun k => if k ∈ Finset.range (r + 1) then f k else 0) n,
    Finset.sum_ite_mem, Finset.inter_eq_right.mpr (Finset.range_subset_range.mpr (by omega))]

/-- The product of the `n` factors of `f` from place `a` on. -/
def prodFrom (f : ℕ → EReal) (a n : ℕ) : EReal := ∏ k ∈ Finset.range n, f (a + k)

/-- Two stretches of factors, the second starting where the first ends, make one. -/
theorem prodFrom_mul (f : ℕ → EReal) (a n n' : ℕ) : prodFrom f a n * prodFrom f (a + n) n' = prodFrom f a (n + n') := by
  unfold prodFrom
  rw [Finset.prod_range_add]
  exact congrArg _ (Finset.prod_congr rfl fun k _ => by rw [Nat.add_assoc])

/-- One more factor. -/
theorem prodFrom_succ (f : ℕ → EReal) (a n : ℕ) : prodFrom f a (n + 1) = prodFrom f a n * f (a + n) :=
  Finset.prod_range_succ _ _

/-- No factor. -/
theorem prodFrom_zero (f : ℕ → EReal) (a : ℕ) : prodFrom f a 0 = 1 := Finset.prod_range_zero _

end Cert.Products

end
-- ==== Proof.KernelValue.lean ====
/-
  What the kernel leaves, at the ideal values: a device's rows of the running products of the whole array.

  A device's own part is the exponential of sums of logarithms over its rows, by a product with a lower triangle of ones;
  each row it was sent holds another device's column products, and it multiplies in those of the devices before it.
-/
module

public import proofs.«01_k».proof.Proof.Protocol
public import proofs.«01_k».proof.Proof.Products
public import Idealize.ShloMosaic.Lib.Pointwise
public import Idealize.ShloMosaic.Lib.MatmulPlain
public import Idealize.ShloMosaic.Lib.IdealHost
public import Idealize.ShloMosaic.Lib.DynamicIndex
public import Idealize.ShloMosaic.Lib.Pointwise.IndexBridge

@[expose] public section

set_option maxRecDepth 16384

noncomputable section

namespace Cert.KernelProof

open Cert.KernelIdeal Cert.KernelIdeal.Gen
open Idealize.ShloMosaic
open Cert.Products
open scoped BigOperators

/-- The logarithms of a block. -/
theorem logs_apply (X : Vec Ideal S256x256 .f32) (k j : Fin 256) : k0_pay1 X (ix2 k j) = Ideal.log (X (ix2 k j)) := by
  unfold k0_pay1
  rw [shapeCast_self]
  rfl

/-- **A block's column products**: where column `j` of the block holds `f` from place `a` on, the product of its 256
    values. -/
theorem totals_apply (X : Vec Ideal S256x256 .f32) (j : Fin 256) (f : ℕ → EReal) (a : ℕ) (hf : ∀ i, 0 ≤ f i)
    (hX : ∀ k : Fin 256, X (ix2 k j) = f (a + k.val)) : k0_pay2 X (ix2 (0 : Fin 1) j) = prodFrom f a 256 := by
  unfold k0_pay2
  rw [shapeCast_self]
  show Ideal.exp (shapeCast S1x256 _ _ (ix2 (0 : Fin 1) j)) = _
  pointwise
  rw [Finset.sum_congr rfl fun k _ => (logs_apply X k j).trans (congrArg Ideal.log (hX k)),
    exp_sum_log _ _ fun i => hf _, Fin.prod_univ_eq_prod_range (fun k => f (a + k)) 256]
  rfl

/-- The lower triangle of ones. -/
theorem triangle_apply (r k : Fin 256) :
    (sitofp .f32 (extui 32 (cmpi .sge (iota .tc S256x256 32 [0] iota_S256x256_d0_w32)
      (iota .tc S256x256 32 [1] iota_S256x256_d1_w32)) natLt_1_32) : FVec Ideal S256x256 .f32) (ix2 r k)
      = if k.val ≤ r.val then 1 else 0 := by
  pointwise
  have hsge : IntOp.cmpi .sge (BitVec.ofNat 32 r.val) (BitVec.ofNat 32 k.val) = BitVec.ofBool (decide (k.val ≤ r.val)) := by
    show BitVec.ofBool ((BitVec.ofNat 32 k.val).sle (BitVec.ofNat 32 r.val)) = _
    unfold BitVec.sle
    rw [toInt_ofNat_of_lt (by omega), toInt_ofNat_of_lt (by omega)]
    simp only [Nat.cast_le]
  rw [hsge]
  show (((BitVec.setWidth 32 (BitVec.ofBool (decide (k.val ≤ r.val)))).toInt : ℝ) : EReal) = _
  by_cases h : k.val ≤ r.val
  · rw [if_pos h, decide_eq_true h, show (BitVec.setWidth 32 (BitVec.ofBool true)).toInt = 1 from rfl, Int.cast_one, EReal.coe_one]
  · rw [if_neg h, decide_eq_false h, show (BitVec.setWidth 32 (BitVec.ofBool false)).toInt = 0 from rfl, Int.cast_zero, EReal.coe_zero]

/-- **A block's running products**: row `r` is the product of the block's rows up to `r`. -/
theorem running_apply (X : Vec Ideal S256x256 .f32) (r j : Fin 256) (f : ℕ → EReal) (a : ℕ) (hf : ∀ i, 0 ≤ f i)
    (hX : ∀ k : Fin 256, X (ix2 k j) = f (a + k.val)) : k0_pay3 (k0_pay1 X) (ix2 r j) = prodFrom f a (r.val + 1) := by
  unfold k0_pay3
  show Ideal.exp (FloatOps.matmul (DotDims.plain 256 256 256) none _ (k0_pay1 X) _ (ix2 r j)) = _
  rw [ix2_eq_valueIdx, Ideal.matmul_plain_apply]
  simp only [← ix2_eq_valueIdx]
  rw [Finset.sum_congr rfl fun k _ => congrArg (_ * ·) ((logs_apply X k j).trans (congrArg Ideal.log (hX k))),
    sum_weighted (fun k => Ideal.log (f (a + k))) _ r.val r.isLt fun k => triangle_apply r k]
  rw [show (constant S256x256 .f32 0x00000000#32 : FVec Ideal S256x256 .f32) (ix2 r j) = 0 from Ideal.ofBits_zero_f32, zero_add,
    exp_sum_log _ _ fun i => hf _]
  rfl

/-! ## The rows received, and which of them count -/

variable (m : (ℓ : Loc nD τ sig) → Buf (Elt Ideal) ℓ) (ρ : Dev nD → PrngReg)

/-- The row in slot `s` holds the totals of the device `s + 1` places back. -/
theorem row_apply (c : Dev nD) (s : Fin 3) (j : Fin 256) :
    row m ρ c s (ix3 (0 : Fin 1) (0 : Fin 1) j) = total m ρ (up s.rev c) (ix2 (0 : Fin 1) j) := by
  show gath m ρ c ((slotR s).emb (ix3 (0 : Fin 1) (0 : Fin 1) j)) = _
  have h : (slotR s).emb (ix3 (0 : Fin 1) (0 : Fin 1) j) = (ix3 s (0 : Fin 1) j : S3x1x256.Idx) := by
    funext a
    apply Fin.ext
    fin_cases a
    · show s.val + 1 * 0 = s.val
      omega
    · rfl
    · show 0 + 1 * j.val = j.val
      omega
  rw [h]
  show total m ρ (up s.rev c) _ = _
  congr 1
  funext a
  fin_cases a <;> rfl

/-- Whether the device `n` places back stands before device `c`, as the kernel computes it. -/
def mask (c : Dev nD) (n : BitVec 32) : BitVec 1 := Scalar.cmpi .slt (mod4 (Scalar.subi (word c) n)) (word c)

/-- It is so exactly when its number is less. -/
theorem mask_eq (c : Dev nD) (s : Fin 3) :
    mask c (BitVec.ofNat 32 (s.val + 1)) = BitVec.ofBool (decide ((up s.rev c).val < c.val)) := by
  revert s c; decide +kernel

/-- The factor of slot `s`: the row's value if it counts, else one. -/
def factor (c : Dev nD) (s : Fin 3) (j : Fin 256) : EReal :=
  Scalar.select (mask c (BitVec.ofNat 32 (s.val + 1))) (row m ρ c s (ix3 (0 : Fin 1) (0 : Fin 1) j)) 1

/-- **What device `c` stores, at an index.** -/
theorem outAt_apply (c : Dev nD) (r j : Fin 256) :
    outAt m ρ c (ix2 r j)
      = k0_pay3 (k0_pay1 (xstg m ρ c)) (ix2 r j) * (factor m ρ c 0 j * factor m ρ c 1 j * factor m ρ c 2 j) := by
  unfold outAt k0_pay5 k0_pay4
  pointwise
  rfl

section Columns

variable (f : ℕ → EReal) (j : Fin 256) (hf : ∀ i, 0 ≤ f i)
  (hX : ∀ (c : Dev nD) (k : Fin 256), xstg m ρ c (ix2 k j) = f (256 * c.val + k.val))

include hf hX in
/-- A factor is the product of a whole block before `c`, or one. -/
theorem factor_eq (c : Dev nD) (s : Fin 3) :
    factor m ρ c s j = if (up s.rev c).val < c.val then prodFrom f (256 * (up s.rev c).val) 256 else 1 := by
  unfold factor
  rw [mask_eq, row_apply, show total m ρ (up s.rev c) (ix2 (0 : Fin 1) j) = prodFrom f (256 * (up s.rev c).val) 256 from
    totals_apply _ j f _ hf fun k => hX _ k]
  by_cases h : (up s.rev c).val < c.val
  · rw [if_pos h, decide_eq_true h]; rfl
  · rw [if_neg h, decide_eq_false h]; rfl

include hf hX in
/-- **Device `c`'s row `r` is the product of all the array's rows up to it**, `256 c + r + 1` of them. -/
theorem outAt_eq_prod (c : Dev nD) (r : Fin 256) : outAt m ρ c (ix2 r j) = prodFrom f 0 (256 * c.val + (r.val + 1)) := by
  rw [outAt_apply, running_apply (xstg m ρ c) r j f _ hf fun k => hX c k, factor_eq m ρ f j hf hX, factor_eq m ρ f j hf hX,
    factor_eq m ρ f j hf hX, ← prodFrom_mul f 0 (256 * c.val) (r.val + 1), mul_comm, Nat.zero_add]
  congr 1
  have h2 : prodFrom f 0 256 * prodFrom f 256 256 = prodFrom f 0 512 := prodFrom_mul f 0 256 256
  have h3 : prodFrom f 0 512 * prodFrom f 512 256 = prodFrom f 0 768 := prodFrom_mul f 0 512 256
  fin_cases c
  · show (1 : EReal) * 1 * 1 = prodFrom f 0 0
    rw [prodFrom_zero, mul_one, mul_one]
  · show prodFrom f 0 256 * 1 * 1 = prodFrom f 0 256
    rw [mul_one, mul_one]
  · show prodFrom f 256 256 * prodFrom f 0 256 * 1 = prodFrom f 0 512
    rw [mul_one, mul_comm, h2]
  · show prodFrom f 512 256 * prodFrom f 256 256 * prodFrom f 0 256 = prodFrom f 0 768
    rw [mul_assoc, mul_comm (prodFrom f 256 256), h2, mul_comm, h3]

end Columns

end Cert.KernelProof

end
-- ==== Proof.ReferenceValue.lean ====
/-
  What the reference computes, at the ideal values: row `i` of its result is the product of the rows up to `i`.

  Its loop carries the array, the row number, the product of the rows so far, and the result with its first rows filled.
-/
module

public import proofs.«01_k».proof.Proof.Gen.ReferenceIdeal
public import proofs.«01_k».proof.Proof.Gen.ReferenceIdeal.Run
public import proofs.«01_k».proof.Proof.Products
public import Idealize.ShloMosaic.Lib.Pointwise
public import Idealize.ShloMosaic.Lib.IdealHost
public import Idealize.ShloMosaic.Lib.DynamicIndex
public import Idealize.ShloMosaic.Lib.Pipeline.Value

@[expose] public section

set_option maxRecDepth 16384

noncomputable section

namespace Cert.ReferenceProof

open Cert.ReferenceIdeal Cert.ReferenceIdeal.Gen Cert.ReferenceIdeal.Value
open Idealize.ShloMosaic Idealize.ShloMosaic.TcCoe Idealize.ShloMosaic.StableHlo
open Cert.Products

/-- Column `j` of the array, by row number (one past its end). -/
def column (x : FVec Ideal S1024x256 .f32) (j : Fin 256) (i : ℕ) : EReal := if h : i < 1024 then x (ix2 ⟨i, h⟩ j) else 1

theorem column_apply (x : FVec Ideal S1024x256 .f32) (i : Fin 1024) (j : Fin 256) : column x j i.val = x (ix2 i j) :=
  dif_pos i.isLt

/-- The loop's contents before trip `n`. -/
structure Before (x : FVec Ideal S1024x256 .f32) (n : ℕ) (V : Valuation τ sig (Elt Ideal)) : Prop where
  array : V (Proc.devRef .tc main_v2_0) = x
  counter : V (Proc.devRef .tc main_v2_1) = constantI S_ 32 (BitVec.ofNat 32 n)
  product : ∀ j : Fin 256, V (Proc.devRef .tc main_v2_2) (ix1 j) = prodFrom (column x j) 0 n
  filled : ∀ (i : Fin 1024) (j : Fin 256), i.val < n → V (Proc.devRef .tc main_v2_3) (ix2 i j) = prodFrom (column x j) 0 (i.val + 1)

/-- The row the loop reads and writes at trip `n`. -/
theorem start_eq (n : ℕ) (hn : n < 1024) (a : Fin 2) : BitVec.toInt ((![constantI S_ 32 (BitVec.ofNat 32 n), constantI S_ 32 0#32] :
    Fin 2 → (⟨S_, .i32⟩ : BufTy).Contents (Elt Ideal)) a (Shape.Idx.first h_S_)) = ((![n, 0] : Fin 2 → ℕ) a : ℤ) := by
  fin_cases a
  · exact toInt_ofNat_of_lt (by omega)
  · rfl

theorem rowFits (n : ℕ) (hn : n < 1024) : S1024x256.Slices ![n, 0] S1x256 :=
  ⟨rfl, fun a => by
    fin_cases a
    · show n + 1 ≤ 1024
      omega
    · show 0 + 256 ≤ 256
      omega⟩

/-- A trip's row lies inside the array, so the start is not moved. -/
theorem start_clamped (n : ℕ) (hn : n < 1024) (a : Fin 2) :
    (min (max (BitVec.toInt ((![constantI S_ 32 (BitVec.ofNat 32 n), constantI S_ 32 0#32] :
      Fin 2 → (⟨S_, .i32⟩ : BufTy).Contents (Elt Ideal)) a (Shape.Idx.first h_S_))) 0)
      ((S1024x256.size a - S1x256.size a : ℕ) : ℤ)).toNat = (![n, 0] : Fin 2 → ℕ) a := by
  rw [start_eq n hn a]
  fin_cases a
  · show (min (max (n : ℤ) 0) ((1024 - 1 : ℕ) : ℤ)).toNat = n
    omega
  · rfl

/-- The product after trip `n`. -/
theorem product_step {x : FVec Ideal S1024x256 .f32} {n : ℕ} (hn : n < 1024) {V : Valuation τ sig (Elt Ideal)} (h : Before x n V)
    (j : Fin 256) : res_main_while0b_v4 V (ix1 j) = prodFrom (column x j) 0 (n + 1) := by
  unfold res_main_while0b_v4
  rw [h.array, h.counter]
  refine (congrArg (fun y : FVec Ideal S1x256 .f32 => mulf (V (Proc.devRef .tc main_v2_2)) (shapeCast S256 y shapeCasts_S1x256_S256) (ix1 j))
    (Host.dynamicSlice_eq_extractStridedSlice _ x _ ![n, 0] _ (rowFits n hn) (start_eq n hn))).trans ?_
  pointwise
  rw [h.product, prodFrom_succ, Nat.zero_add, ← column_apply x ⟨n, hn⟩ j]

/-- One trip. -/
theorem step {x : FVec Ideal S1024x256 .f32} {n : ℕ} (hn : n < 1024) {V : Valuation τ sig (Elt Ideal)} (h : Before x n V) :
    Before x (n + 1) (STEP V) where
  array := (STEP_main_v2_0 V).trans h.array
  counter := by
    rw [STEP_main_v2_1]
    unfold step_main_v2_1
    rw [h.counter]
    funext i
    show BitVec.ofNat 32 n + 1#32 = BitVec.ofNat 32 (n + 1)
    rw [BitVec.ofNat_add]
  product j := by
    rw [STEP_main_v2_2]
    exact product_step hn h j
  filled i j hi := by
    rw [STEP_main_v2_3]
    unfold step_main_v2_3
    rw [h.counter, Host.dynamicUpdateSlice_eq_updateSlice _ _ _ _ ![n, 0]
      (start_clamped n hn) (rowFits n hn)]
    show updateSlice _ _ _ _ (ix2 i j) = _
    pointwise
    by_cases hn' : n ≤ i.val
    · obtain rfl : i.val = n := by omega
      rw [dif_pos ⟨le_rfl, Nat.lt_succ_self _⟩]
      exact product_step hn h j
    · rw [dif_neg (fun hh => hn' hh.1)]
      exact h.filled i j (by omega)

variable (m : (ℓ : Loc nD τ sig) → Buf (Elt Ideal) ℓ)

/-- The loop's start. -/
theorem entry (c : Dev nD) : Before (m ((c.tc : Thread nD τ).loc main_arg0)) 0 (entryContents preI m c) where
  array := by
    simp only [entryContents, afterL_cons, afterL_nil]
    after_reads_simp
    rfl
  counter := ctr_entry m c
  product j := by
    simp only [entryContents, afterL_cons, afterL_nil]
    after_reads_simp
    rw [prodFrom_zero]
    exact Ideal.ofBits_one_f32
  filled i j hi := absurd hi (Nat.not_lt_zero _)

/-- Before trip `n`. -/
theorem before (c : Dev nD) : ∀ n ≤ 1024, Before (m ((c.tc : Thread nD τ).loc main_arg0)) n (STEP^[n] (entryContents preI m c))
  | 0, _ => entry m c
  | n + 1, h => by
    rw [Function.iterate_succ_apply']
    exact step (by omega) (before c n (by omega))

/-- **Row `i` of the result is the product of the rows up to `i`.** -/
theorem result_apply (c : Dev nD) (i : Fin 1024) (j : Fin 256) :
    (STEP^[1024] (entryContents preI m c)) (Proc.devRef .tc main_v2_3) (ix2 i j)
      = prodFrom (column (m ((c.tc : Thread nD τ).loc main_arg0)) j) 0 (i.val + 1) :=
  (before m c 1024 le_rfl).filled i j i.isLt

end Cert.ReferenceProof

end
-- ==== Proof.Agree.lean ====
/-
  The kernel's result and the reference's are the same array: device `c` holds rows `256 c` to `256 c + 255` of it.
-/
module

public import proofs.«01_k».proof.Proof.KernelValue
public import proofs.«01_k».proof.Proof.Launch
public import proofs.«01_k».proof.Proof.ReferenceValue
public import proofs.«01_k».proof.Proof.Gen.Pre_nonneg_KernelIdeal
public import Idealize.ShloMosaic.Lib.Layout

@[expose] public section

set_option maxRecDepth 16384

noncomputable section

namespace Cert.Agree

open Idealize.ShloMosaic Idealize.ShloMosaic.TcCoe
open Cert.Products
open Cert.ReferenceProof (column)

/-- Where a device's row stands in the whole array. -/
theorem block_at (c : Fin 4) (x : (⟨2, ![1024, 256]⟩ : Shape).Idx → EReal) (k j : Fin 256) :
    Layout.block ⟨2, ![256, 256]⟩ ⟨2, ![1024, 256]⟩ 0 4 c x (by decide) (ix2 k j) = x (ix2 ⟨256 * c.val + k.val, by omega⟩ j) := by
  rw [Layout.block_apply]
  congr 1
  funext a
  apply Fin.ext
  rw [Layout.Tiles.idx_val]
  fin_cases a
  · show c.val * 256 + k.val = 256 * c.val + k.val
    rw [Nat.mul_comm]
  · rfl

/-- The precondition, at an index. -/
theorem nonneg_apply (x : FVec Ideal (⟨2, ![256, 256]⟩ : Shape) .f32) (h : Cert.Pre_nonneg_KernelIdeal.fn (F := Ideal) x = fun _ => 1#1)
    (i : (⟨2, ![256, 256]⟩ : Shape).Idx) : (0 : EReal) ≤ x i := by
  have h' := congrFun h i
  unfold Cert.Pre_nonneg_KernelIdeal.fn at h'
  have h0 : Ideal.cmp .oge (x i) (Ideal.ofBits .f32 0x00000000#32) = 1#1 := h'
  rw [Ideal.ofBits_zero_f32] at h0
  by_contra hn
  have h1 : BitVec.ofBool (decide ((0 : EReal) ≤ x i)) = 1#1 := h0
  rw [decide_eq_false hn] at h1
  exact absurd h1 (by decide)

open Cert.KernelIdeal in
/-- **The two results.** Where the devices' arguments are the blocks of `x`, none of its values negative, and `y` holds
    the products of `x`'s rows, device `c`'s result is its block of `y`. -/
theorem outAt_eq_block (m : (ℓ : Loc nD τ sig) → Buf (Elt Ideal) ℓ) (ρ : Dev nD → PrngReg)
    (x y : FVec Ideal (⟨2, ![1024, 256]⟩ : Shape) .f32)
    (hpos : ∀ (c : Dev nD) (i : (⟨2, ![256, 256]⟩ : Shape).Idx), (0 : EReal) ≤ m ((c : Thread nD τ).loc main_arg0) i)
    (hm : ∀ c : Dev nD, m ((c : Thread nD τ).loc main_arg0) = Layout.block ⟨2, ![256, 256]⟩ ⟨2, ![1024, 256]⟩ 0 4 c x (by decide))
    (hy : ∀ (i : Fin 1024) (j : Fin 256), y (ix2 i j) = prodFrom (column x j) 0 (i.val + 1)) (c : Dev nD) :
    Cert.KernelProof.outAt m ρ c = Layout.block ⟨2, ![256, 256]⟩ ⟨2, ![1024, 256]⟩ 0 4 c y (by decide) := by
  have hcol : ∀ (c : Dev nD) (k j : Fin 256), m ((c : Thread nD τ).loc main_arg0) (ix2 k j) = column x j (256 * c.val + k.val) := fun c k j => by
    have hc : c.val < 4 := c.isLt
    rw [hm c]
    refine (block_at c x k j).trans ?_
    exact (Cert.ReferenceProof.column_apply x ⟨256 * c.val + k.val, by omega⟩ j).symm
  have hnn : ∀ (j : Fin 256) (i : ℕ), 0 ≤ column x j i := fun j i => by
    by_cases hi : i < 1024
    · have h := hcol ⟨i / 256, by show i / 256 < 4; omega⟩ ⟨i % 256, Nat.mod_lt _ (by decide)⟩ j
      rw [show 256 * (i / 256) + i % 256 = i from Nat.div_add_mod i 256] at h
      rw [← h]
      exact hpos _ _
    · unfold column
      rw [dif_neg hi]
      exact zero_le_one
  funext i
  obtain ⟨r, j, rfl⟩ : ∃ r j : Fin 256, i = ix2 r j := ⟨i 0, i 1, eq_ix2 i⟩
  rw [Cert.KernelProof.outAt_eq_prod m ρ (column x j) j (hnn j) (fun c k => by rw [Cert.KernelProof.xstg_eq]; exact hcol c k j) c r]
  refine Eq.trans ?_ (block_at c y r j).symm
  rw [hy]
  rfl

end Cert.Agree

end
-- ==== Proof.lean ====
/-
  The certificate: the five claims, put together. The kernel's run is `run_main` (Proof/Launch.lean), once for any float
  values, since the two printed kernels have the same text; the values are
  compared in Proof/Agree.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonneg_KernelIdeal
public import proofs.«01_k».proof.Proof.Gen.ReferenceIdeal.Run
public import proofs.«01_k».proof.Proof.Gen.Pre_nonneg_ReferenceIdeal
public import proofs.«01_k».proof.Proof.Launch
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem
open Cert.KernelProof (run_main finalA_x finalA_out)

/-! ## The two printed kernels are one program -/

theorem bodies_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀)) ?_
  funext l x
  match l, x with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) :=
  congrArg (Pipeline.defs Cert.KernelIdeal.pcfgs) bodies_eq

/-! ## The frames -/

/-- The kernel runs and stops, its argument unchanged and every counter at zero, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (finalA_x m ρ c), h.2⟩) (run_main m ρ)

theorem frame_kernel : Cert.quiescent_Kernel := fun m ρ _ => by
  rw [defs_eq]
  exact frame_any (F := Bits) m ρ

theorem frame_kernelIdeal : Cert.quiescent_KernelIdeal := fun m ρ _ => frame_any (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- On arguments that are not negative, each device's result is its block of what the reference computes. -/
theorem value : Cert.algebraic_KernelIdeal_ReferenceIdeal_pre_nonneg_KernelIdeal := fun m g m' g' hpre hm =>
  ⟨_,
    (θ_run Cert.KernelIdeal.defs _ _).mono (fun _ h c =>
      ⟨(h.1 c (1 : Fin 2)).trans ((finalA_out m g c).trans (Cert.Agree.outAt_eq_block m g _ _
          (fun c i => Cert.Agree.nonneg_apply _ (hpre c) i) hm (fun i j => Cert.ReferenceProof.result_apply m' 0 i j) c)),
        (h.1 c (0 : Fin 2)).trans (finalA_x m g c)⟩) (run_main m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Pre_nonneg_KernelIdeal.Gen.facts, Cert.Pre_nonneg_ReferenceIdeal.Gen.facts,
    frame_kernel, frame_kernelIdeal, fun m ρ _ => frame_kernelIdeal m ρ trivial,
    frame_referenceIdeal, fun m ρ _ => frame_referenceIdeal m ρ trivial,
    trivial, value⟩

end Cert.Proof

end
